-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))).2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_MemoryIn (m : (ℓ : Loc Cert.MemoryIn.nD Cert.MemoryIn.τ Cert.MemoryIn.sig) → Buf (Elt Bits) ℓ) : Prop :=
  True

def Pre_MemoryInIdeal (m : (ℓ : Loc Cert.MemoryInIdeal.nD Cert.MemoryInIdeal.τ Cert.MemoryInIdeal.sig) → Buf (Elt Ideal) ℓ) : Prop :=
  True

def Pre_MemoryInRefIdeal (m : (ℓ : Loc Cert.MemoryInRefIdeal.nD Cert.MemoryInRefIdeal.τ Cert.MemoryInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FoxCum (m : (ℓ : Loc Cert.FoxCum.nD Cert.FoxCum.τ Cert.FoxCum.sig) → Buf (Elt Bits) ℓ) : Prop :=
  True

def Pre_FoxCumIdeal (m : (ℓ : Loc Cert.FoxCumIdeal.nD Cert.FoxCumIdeal.τ Cert.FoxCumIdeal.sig) → Buf (Elt Ideal) ℓ) : Prop :=
  True

def Pre_FoxCumRefIdeal (m : (ℓ : Loc Cert.FoxCumRefIdeal.nD Cert.FoxCumRefIdeal.τ Cert.FoxCumRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_MemoryIn [hMemoryIn : Cert.MemoryIn.Facts] : Prop :=
  ∀ (m : (ℓ : Loc Cert.MemoryIn.nD Cert.MemoryIn.τ Cert.MemoryIn.sig) → Buf (Elt Bits) ℓ) (g : Dev Cert.MemoryIn.nD → PrngReg), Pre_MemoryIn m →
    θ_run (Cert.MemoryIn.defs (F := Bits)) (onTc (τ := Cert.MemoryIn.τ) (Cert.MemoryIn.main (F := Bits))) ⟨m, fun _ => 0, g⟩ (fun r => (∀ c : Dev Cert.MemoryIn.nD,
      r.2.mem ((c.tc : Thread Cert.MemoryIn.nD Cert.MemoryIn.τ).loc Cert.MemoryIn.main_arg0) = m ((c.tc : Thread Cert.MemoryIn.nD Cert.MemoryIn.τ).loc Cert.MemoryIn.main_arg0)
      ∧ r.2.mem ((c.tc : Thread Cert.MemoryIn.nD Cert.MemoryIn.τ).loc Cert.MemoryIn.main_arg1) = m ((c.tc : Thread Cert.MemoryIn.nD Cert.MemoryIn.τ).loc Cert.MemoryIn.main_arg1)
      ∧ r.2.mem ((c.tc : Thread Cert.MemoryIn.nD Cert.MemoryIn.τ).loc Cert.MemoryIn.main_arg2) = m ((c.tc : Thread Cert.MemoryIn.nD Cert.MemoryIn.τ).loc Cert.MemoryIn.main_arg2))
      ∧ r.2.sem = fun _ => 0)

def quiescent_MemoryInIdeal [hMemoryInIdeal : Cert.MemoryInIdeal.Facts] : Prop :=
  ∀ (m : (ℓ : Loc Cert.MemoryInIdeal.nD Cert.MemoryInIdeal.τ Cert.MemoryInIdeal.sig) → Buf (Elt Ideal) ℓ) (g : Dev Cert.MemoryInIdeal.nD → PrngReg), Pre_MemoryInIdeal m →
    θ_run (Cert.MemoryInIdeal.defs (F := Ideal)) (onTc (τ := Cert.MemoryInIdeal.τ) (Cert.MemoryInIdeal.main (F := Ideal))) ⟨m, fun _ => 0, g⟩ (fun r => (∀ c : Dev Cert.MemoryInIdeal.nD,
      r.2.mem ((c.tc : Thread Cert.MemoryInIdeal.nD Cert.MemoryInIdeal.τ).loc Cert.MemoryInIdeal.main_arg0) = m ((c.tc : Thread Cert.MemoryInIdeal.nD Cert.MemoryInIdeal.τ).loc Cert.MemoryInIdeal.main_arg0)
      ∧ r.2.mem ((c.tc : Thread Cert.MemoryInIdeal.nD Cert.MemoryInIdeal.τ).loc Cert.MemoryInIdeal.main_arg1) = m ((c.tc : Thread Cert.MemoryInIdeal.nD Cert.MemoryInIdeal.τ).loc Cert.MemoryInIdeal.main_arg1)
      ∧ r.2.mem ((c.tc : Thread Cert.MemoryInIdeal.nD Cert.MemoryInIdeal.τ).loc Cert.MemoryInIdeal.main_arg2) = m ((c.tc : Thread Cert.MemoryInIdeal.nD Cert.MemoryInIdeal.τ).loc Cert.MemoryInIdeal.main_arg2))
      ∧ r.2.sem = fun _ => 0)

def quiescent_MemoryInRefIdeal [hMemoryInRefIdeal : Cert.MemoryInRefIdeal.Facts] : Prop :=
  ∀ (m : (ℓ : Loc Cert.MemoryInRefIdeal.nD Cert.MemoryInRefIdeal.τ Cert.MemoryInRefIdeal.sig) → Buf (Elt Ideal) ℓ) (g : Dev Cert.MemoryInRefIdeal.nD → PrngReg), Pre_MemoryInRefIdeal m →
    θ_run (Cert.MemoryInRefIdeal.defs (F := Ideal)) (onTc (τ := Cert.MemoryInRefIdeal.τ) (Cert.MemoryInRefIdeal.main (F := Ideal))) ⟨m, fun _ => 0, g⟩ (fun r => (∀ c : Dev Cert.MemoryInRefIdeal.nD,
      r.2.mem ((c.tc : Thread Cert.MemoryInRefIdeal.nD Cert.MemoryInRefIdeal.τ).loc Cert.MemoryInRefIdeal.main_arg0) = m ((c.tc : Thread Cert.MemoryInRefIdeal.nD Cert.MemoryInRefIdeal.τ).loc Cert.MemoryInRefIdeal.main_arg0)
      ∧ r.2.mem ((c.tc : Thread Cert.MemoryInRefIdeal.nD Cert.MemoryInRefIdeal.τ).loc Cert.MemoryInRefIdeal.main_arg1) = m ((c.tc : Thread Cert.MemoryInRefIdeal.nD Cert.MemoryInRefIdeal.τ).loc Cert.MemoryInRefIdeal.main_arg1)
      ∧ r.2.mem ((c.tc : Thread Cert.MemoryInRefIdeal.nD Cert.MemoryInRefIdeal.τ).loc Cert.MemoryInRefIdeal.main_arg2) = m ((c.tc : Thread Cert.MemoryInRefIdeal.nD Cert.MemoryInRefIdeal.τ).loc Cert.MemoryInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_FoxCum [hFoxCum : Cert.FoxCum.Facts] : Prop :=
  ∀ (m : (ℓ : Loc Cert.FoxCum.nD Cert.FoxCum.τ Cert.FoxCum.sig) → Buf (Elt Bits) ℓ) (g : Dev Cert.FoxCum.nD → PrngReg), Pre_FoxCum m →
    θ_run (Cert.FoxCum.defs (F := Bits)) (onTc (τ := Cert.FoxCum.τ) (Cert.FoxCum.main (F := Bits))) ⟨m, fun _ => 0, g⟩ (fun r => (∀ c : Dev Cert.FoxCum.nD,
      r.2.mem ((c.tc : Thread Cert.FoxCum.nD Cert.FoxCum.τ).loc Cert.FoxCum.main_arg0) = m ((c.tc : Thread Cert.FoxCum.nD Cert.FoxCum.τ).loc Cert.FoxCum.main_arg0)
      ∧ r.2.mem ((c.tc : Thread Cert.FoxCum.nD Cert.FoxCum.τ).loc Cert.FoxCum.main_arg1) = m ((c.tc : Thread Cert.FoxCum.nD Cert.FoxCum.τ).loc Cert.FoxCum.main_arg1))
      ∧ r.2.sem = fun _ => 0)

def quiescent_FoxCumIdeal [hFoxCumIdeal : Cert.FoxCumIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg), Pre_FoxCumIdeal m →
    θ_run (Cert.FoxCumIdeal.defs (F := Ideal)) (onTc (τ := Cert.FoxCumIdeal.τ) (Cert.FoxCumIdeal.main (F := Ideal))) ⟨m, fun _ => 0, g⟩ (fun r => (∀ c : Dev Cert.FoxCumIdeal.nD,
      r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
      ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ r.2.sem = fun _ => 0)

def quiescent_FoxCumRefIdeal [hFoxCumRefIdeal : Cert.FoxCumRefIdeal.Facts] : Prop :=
  ∀ (m : (ℓ : Loc Cert.FoxCumRefIdeal.nD Cert.FoxCumRefIdeal.τ Cert.FoxCumRefIdeal.sig) → Buf (Elt Ideal) ℓ) (g : Dev Cert.FoxCumRefIdeal.nD → PrngReg), Pre_FoxCumRefIdeal m →
    θ_run (Cert.FoxCumRefIdeal.defs (F := Ideal)) (onTc (τ := Cert.FoxCumRefIdeal.τ) (Cert.FoxCumRefIdeal.main (F := Ideal))) ⟨m, fun _ => 0, g⟩ (fun r => (∀ c : Dev Cert.FoxCumRefIdeal.nD,
      r.2.mem ((c.tc : Thread Cert.FoxCumRefIdeal.nD Cert.FoxCumRefIdeal.τ).loc Cert.FoxCumRefIdeal.main_arg0) = m ((c.tc : Thread Cert.FoxCumRefIdeal.nD Cert.FoxCumRefIdeal.τ).loc Cert.FoxCumRefIdeal.main_arg0)
      ∧ r.2.mem ((c.tc : Thread Cert.FoxCumRefIdeal.nD Cert.FoxCumRefIdeal.τ).loc Cert.FoxCumRefIdeal.main_arg1) = m ((c.tc : Thread Cert.FoxCumRefIdeal.nD Cert.FoxCumRefIdeal.τ).loc Cert.FoxCumRefIdeal.main_arg1))
      ∧ r.2.sem = fun _ => 0)

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v5)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v5) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v38) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v3)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v37) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v2_0)) (v1 : (c : Dev Cert.EvenInIdeal.nD) → Buf (Elt Ideal) ((c.tc : Thread Cert.EvenInIdeal.nD Cert.EvenInIdeal.τ).loc Cert.EvenInIdeal.main_v2_1)) (v2 : (c : Dev Cert.EvenInIdeal.nD) → Buf (Elt Ideal) ((c.tc : Thread Cert.EvenInIdeal.nD Cert.EvenInIdeal.τ).loc Cert.EvenInIdeal.main_v2_2)) (v3 : (c : Dev Cert.EvenInIdeal.nD) → Buf (Elt Ideal) ((c.tc : Thread Cert.EvenInIdeal.nD Cert.EvenInIdeal.τ).loc Cert.EvenInIdeal.main_v2_3)) (v4 : (c : Dev Cert.EvenInIdeal.nD) → Buf (Elt Ideal) ((c.tc : Thread Cert.EvenInIdeal.nD Cert.EvenInIdeal.τ).loc Cert.EvenInIdeal.main_v2_4)) (v5 : (c : Dev Cert.EvenInIdeal.nD) → Buf (Elt Ideal) ((c.tc : Thread Cert.EvenInIdeal.nD Cert.EvenInIdeal.τ).loc Cert.EvenInIdeal.main_v2_5)) (v6 : (c : Dev Cert.EvenInIdeal.nD) → Buf (Elt Ideal) ((c.tc : Thread Cert.EvenInIdeal.nD Cert.EvenInIdeal.τ).loc Cert.EvenInIdeal.main_v2_6)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2_0) = v0 c
          ∧ r.2.mem ((c.tc : Thread Cert.EvenInIdeal.nD Cert.EvenInIdeal.τ).loc Cert.EvenInIdeal.main_v2_1) = v1 c
          ∧ r.2.mem ((c.tc : Thread Cert.EvenInIdeal.nD Cert.EvenInIdeal.τ).loc Cert.EvenInIdeal.main_v2_2) = v2 c
          ∧ r.2.mem ((c.tc : Thread Cert.EvenInIdeal.nD Cert.EvenInIdeal.τ).loc Cert.EvenInIdeal.main_v2_3) = v3 c
          ∧ r.2.mem ((c.tc : Thread Cert.EvenInIdeal.nD Cert.EvenInIdeal.τ).loc Cert.EvenInIdeal.main_v2_4) = v4 c
          ∧ r.2.mem ((c.tc : Thread Cert.EvenInIdeal.nD Cert.EvenInIdeal.τ).loc Cert.EvenInIdeal.main_v2_5) = v5 c
          ∧ r.2.mem ((c.tc : Thread Cert.EvenInIdeal.nD Cert.EvenInIdeal.τ).loc Cert.EvenInIdeal.main_v2_6) = v6 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v21) = v0 c
          ∧ r.2.mem ((c.tc : Thread Cert.EvenInRefIdeal.nD Cert.EvenInRefIdeal.τ).loc Cert.EvenInRefIdeal.main_v15) = v1 c
          ∧ r.2.mem ((c.tc : Thread Cert.EvenInRefIdeal.nD Cert.EvenInRefIdeal.τ).loc Cert.EvenInRefIdeal.main_v22) = v2 c
          ∧ r.2.mem ((c.tc : Thread Cert.EvenInRefIdeal.nD Cert.EvenInRefIdeal.τ).loc Cert.EvenInRefIdeal.main_v23) = v3 c
          ∧ r.2.mem ((c.tc : Thread Cert.EvenInRefIdeal.nD Cert.EvenInRefIdeal.τ).loc Cert.EvenInRefIdeal.main_v24) = v4 c
          ∧ r.2.mem ((c.tc : Thread Cert.EvenInRefIdeal.nD Cert.EvenInRefIdeal.τ).loc Cert.EvenInRefIdeal.main_v25) = v5 c
          ∧ r.2.mem ((c.tc : Thread Cert.EvenInRefIdeal.nD Cert.EvenInRefIdeal.τ).loc Cert.EvenInRefIdeal.main_v26) = v6 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v3_0)) (v1 : (c : Dev Cert.OddInIdeal.nD) → Buf (Elt Ideal) ((c.tc : Thread Cert.OddInIdeal.nD Cert.OddInIdeal.τ).loc Cert.OddInIdeal.main_v3_1)) (v2 : (c : Dev Cert.OddInIdeal.nD) → Buf (Elt Ideal) ((c.tc : Thread Cert.OddInIdeal.nD Cert.OddInIdeal.τ).loc Cert.OddInIdeal.main_v3_2)) (v3 : (c : Dev Cert.OddInIdeal.nD) → Buf (Elt Ideal) ((c.tc : Thread Cert.OddInIdeal.nD Cert.OddInIdeal.τ).loc Cert.OddInIdeal.main_v3_3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3_0) = v0 c
          ∧ r.2.mem ((c.tc : Thread Cert.OddInIdeal.nD Cert.OddInIdeal.τ).loc Cert.OddInIdeal.main_v3_1) = v1 c
          ∧ r.2.mem ((c.tc : Thread Cert.OddInIdeal.nD Cert.OddInIdeal.τ).loc Cert.OddInIdeal.main_v3_2) = v2 c
          ∧ r.2.mem ((c.tc : Thread Cert.OddInIdeal.nD Cert.OddInIdeal.τ).loc Cert.OddInIdeal.main_v3_3) = v3 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v18) = v0 c
          ∧ r.2.mem ((c.tc : Thread Cert.OddInRefIdeal.nD Cert.OddInRefIdeal.τ).loc Cert.OddInRefIdeal.main_v19) = v1 c
          ∧ r.2.mem ((c.tc : Thread Cert.OddInRefIdeal.nD Cert.OddInRefIdeal.τ).loc Cert.OddInRefIdeal.main_v20) = v2 c
          ∧ r.2.mem ((c.tc : Thread Cert.OddInRefIdeal.nD Cert.OddInRefIdeal.τ).loc Cert.OddInRefIdeal.main_v21) = v3 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_MemoryIn_MemoryInIdeal : Prop :=
  True

def algebraic_MemoryInIdeal_MemoryInRefIdeal [hMemoryInIdeal : Cert.MemoryInIdeal.Facts] [hMemoryInRefIdeal : Cert.MemoryInRefIdeal.Facts] : Prop :=
  ∀ (m : (ℓ : Loc Cert.MemoryInIdeal.nD Cert.MemoryInIdeal.τ Cert.MemoryInIdeal.sig) → Buf (Elt Ideal) ℓ) (g : Dev Cert.MemoryInIdeal.nD → PrngReg)
    (m' : (ℓ : Loc Cert.MemoryInRefIdeal.nD Cert.MemoryInRefIdeal.τ Cert.MemoryInRefIdeal.sig) → Buf (Elt Ideal) ℓ) (g' : Dev Cert.MemoryInRefIdeal.nD → PrngReg), Pre_MemoryInIdeal m →
    (∀ c : Dev Cert.MemoryInIdeal.nD,
      m' ((c.tc : Thread Cert.MemoryInRefIdeal.nD Cert.MemoryInRefIdeal.τ).loc Cert.MemoryInRefIdeal.main_arg0) = m ((c.tc : Thread Cert.MemoryInIdeal.nD Cert.MemoryInIdeal.τ).loc Cert.MemoryInIdeal.main_arg0)
      ∧ m' ((c.tc : Thread Cert.MemoryInRefIdeal.nD Cert.MemoryInRefIdeal.τ).loc Cert.MemoryInRefIdeal.main_arg1) = m ((c.tc : Thread Cert.MemoryInIdeal.nD Cert.MemoryInIdeal.τ).loc Cert.MemoryInIdeal.main_arg1)
      ∧ m' ((c.tc : Thread Cert.MemoryInRefIdeal.nD Cert.MemoryInRefIdeal.τ).loc Cert.MemoryInRefIdeal.main_arg2) = m ((c.tc : Thread Cert.MemoryInIdeal.nD Cert.MemoryInIdeal.τ).loc Cert.MemoryInIdeal.main_arg2)) →
    ∃ (v0 : (c : Dev Cert.MemoryInIdeal.nD) → Buf (Elt Ideal) ((c.tc : Thread Cert.MemoryInIdeal.nD Cert.MemoryInIdeal.τ).loc Cert.MemoryInIdeal.main_v2_0)) (v1 : (c : Dev Cert.MemoryInIdeal.nD) → Buf (Elt Ideal) ((c.tc : Thread Cert.MemoryInIdeal.nD Cert.MemoryInIdeal.τ).loc Cert.MemoryInIdeal.main_v2_1)),
      θ_run (Cert.MemoryInIdeal.defs (F := Ideal)) (onTc (τ := Cert.MemoryInIdeal.τ) (Cert.MemoryInIdeal.main (F := Ideal))) ⟨m, fun _ => 0, g⟩ (fun r => ∀ c : Dev Cert.MemoryInIdeal.nD,
          r.2.mem ((c.tc : Thread Cert.MemoryInIdeal.nD Cert.MemoryInIdeal.τ).loc Cert.MemoryInIdeal.main_v2_0) = v0 c
          ∧ r.2.mem ((c.tc : Thread Cert.MemoryInIdeal.nD Cert.MemoryInIdeal.τ).loc Cert.MemoryInIdeal.main_v2_1) = v1 c
          ∧ r.2.mem ((c.tc : Thread Cert.MemoryInIdeal.nD Cert.MemoryInIdeal.τ).loc Cert.MemoryInIdeal.main_arg0) = m ((c.tc : Thread Cert.MemoryInIdeal.nD Cert.MemoryInIdeal.τ).loc Cert.MemoryInIdeal.main_arg0)
          ∧ r.2.mem ((c.tc : Thread Cert.MemoryInIdeal.nD Cert.MemoryInIdeal.τ).loc Cert.MemoryInIdeal.main_arg1) = m ((c.tc : Thread Cert.MemoryInIdeal.nD Cert.MemoryInIdeal.τ).loc Cert.MemoryInIdeal.main_arg1)
          ∧ r.2.mem ((c.tc : Thread Cert.MemoryInIdeal.nD Cert.MemoryInIdeal.τ).loc Cert.MemoryInIdeal.main_arg2) = m ((c.tc : Thread Cert.MemoryInIdeal.nD Cert.MemoryInIdeal.τ).loc Cert.MemoryInIdeal.main_arg2))
      ∧ θ_run (Cert.MemoryInRefIdeal.defs (F := Ideal)) (onTc (τ := Cert.MemoryInRefIdeal.τ) (Cert.MemoryInRefIdeal.main (F := Ideal))) ⟨m', fun _ => 0, g'⟩ (fun r => ∀ c : Dev Cert.MemoryInRefIdeal.nD,
          r.2.mem ((c.tc : Thread Cert.MemoryInRefIdeal.nD Cert.MemoryInRefIdeal.τ).loc Cert.MemoryInRefIdeal.main_v16) = v0 c
          ∧ r.2.mem ((c.tc : Thread Cert.MemoryInRefIdeal.nD Cert.MemoryInRefIdeal.τ).loc Cert.MemoryInRefIdeal.main_v17) = v1 c
          ∧ r.2.mem ((c.tc : Thread Cert.MemoryInRefIdeal.nD Cert.MemoryInRefIdeal.τ).loc Cert.MemoryInRefIdeal.main_arg0) = m' ((c.tc : Thread Cert.MemoryInRefIdeal.nD Cert.MemoryInRefIdeal.τ).loc Cert.MemoryInRefIdeal.main_arg0)
          ∧ r.2.mem ((c.tc : Thread Cert.MemoryInRefIdeal.nD Cert.MemoryInRefIdeal.τ).loc Cert.MemoryInRefIdeal.main_arg1) = m' ((c.tc : Thread Cert.MemoryInRefIdeal.nD Cert.MemoryInRefIdeal.τ).loc Cert.MemoryInRefIdeal.main_arg1)
          ∧ r.2.mem ((c.tc : Thread Cert.MemoryInRefIdeal.nD Cert.MemoryInRefIdeal.τ).loc Cert.MemoryInRefIdeal.main_arg2) = m' ((c.tc : Thread Cert.MemoryInRefIdeal.nD Cert.MemoryInRefIdeal.τ).loc Cert.MemoryInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v4) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v2) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_FoxCum_FoxCumIdeal : Prop :=
  True

def algebraic_FoxCumIdeal_FoxCumRefIdeal [hFoxCumIdeal : Cert.FoxCumIdeal.Facts] [hFoxCumRefIdeal : Cert.FoxCumRefIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg)
    (m' : (ℓ : Loc Cert.FoxCumRefIdeal.nD Cert.FoxCumRefIdeal.τ Cert.FoxCumRefIdeal.sig) → Buf (Elt Ideal) ℓ) (g' : Dev Cert.FoxCumRefIdeal.nD → PrngReg), Pre_FoxCumIdeal m →
    (∀ c : Dev Cert.FoxCumIdeal.nD,
      m' ((c.tc : Thread Cert.FoxCumRefIdeal.nD Cert.FoxCumRefIdeal.τ).loc Cert.FoxCumRefIdeal.main_arg0) = m ((c.tc : Thread Cert.FoxCumIdeal.nD Cert.FoxCumIdeal.τ).loc Cert.FoxCumIdeal.main_arg0)
      ∧ m' ((c.tc : Thread Cert.FoxCumRefIdeal.nD Cert.FoxCumRefIdeal.τ).loc Cert.FoxCumRefIdeal.main_arg1) = m ((c.tc : Thread Cert.FoxCumIdeal.nD Cert.FoxCumIdeal.τ).loc Cert.FoxCumIdeal.main_arg1)) →
    ∃ (v0 : (c : Dev Cert.FoxCumIdeal.nD) → Buf (Elt Ideal) ((c.tc : Thread Cert.FoxCumIdeal.nD Cert.FoxCumIdeal.τ).loc Cert.FoxCumIdeal.main_v3)),
      θ_run (Cert.FoxCumIdeal.defs (F := Ideal)) (onTc (τ := Cert.FoxCumIdeal.τ) (Cert.FoxCumIdeal.main (F := Ideal))) ⟨m, fun _ => 0, g⟩ (fun r => ∀ c : Dev Cert.FoxCumIdeal.nD,
          r.2.mem ((c.tc : Thread Cert.FoxCumIdeal.nD Cert.FoxCumIdeal.τ).loc Cert.FoxCumIdeal.main_v3) = v0 c
          ∧ r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
          ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ θ_run (Cert.FoxCumRefIdeal.defs (F := Ideal)) (onTc (τ := Cert.FoxCumRefIdeal.τ) (Cert.FoxCumRefIdeal.main (F := Ideal))) ⟨m', fun _ => 0, g'⟩ (fun r => ∀ c : Dev Cert.FoxCumRefIdeal.nD,
          r.2.mem ((c.tc : Thread Cert.FoxCumRefIdeal.nD Cert.FoxCumRefIdeal.τ).loc Cert.FoxCumRefIdeal.main_v7) = v0 c
          ∧ r.2.mem ((c.tc : Thread Cert.FoxCumRefIdeal.nD Cert.FoxCumRefIdeal.τ).loc Cert.FoxCumRefIdeal.main_arg0) = m' ((c.tc : Thread Cert.FoxCumRefIdeal.nD Cert.FoxCumRefIdeal.τ).loc Cert.FoxCumRefIdeal.main_arg0)
          ∧ r.2.mem ((c.tc : Thread Cert.FoxCumRefIdeal.nD Cert.FoxCumRefIdeal.τ).loc Cert.FoxCumRefIdeal.main_arg1) = m' ((c.tc : Thread Cert.FoxCumRefIdeal.nD Cert.FoxCumRefIdeal.τ).loc Cert.FoxCumRefIdeal.main_arg1))

def Claim : Prop :=
  ∃ (hFox : Cert.Fox.Facts) (hFoxIdeal : Cert.FoxIdeal.Facts) (hFoxRefIdeal : Cert.FoxRefIdeal.Facts) (hXattn : Cert.Xattn.Facts) (hXattnIdeal : Cert.XattnIdeal.Facts) (hXattnRefIdeal : Cert.XattnRefIdeal.Facts) (hMlp : Cert.Mlp.Facts) (hMlpIdeal : Cert.MlpIdeal.Facts) (hMlpRefIdeal : Cert.MlpRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hMemoryIn : Cert.MemoryIn.Facts) (hMemoryInIdeal : Cert.MemoryInIdeal.Facts) (hMemoryInRefIdeal : Cert.MemoryInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hFinal : Cert.Final.Facts) (hFinalIdeal : Cert.FinalIdeal.Facts) (hFinalRefIdeal : Cert.FinalRefIdeal.Facts) (hFoxCum : Cert.FoxCum.Facts) (hFoxCumIdeal : Cert.FoxCumIdeal.Facts) (hFoxCumRefIdeal : Cert.FoxCumRefIdeal.Facts) (hPre_fox_finite : Cert.Pre_fox_finite.Facts) (hPre_xattn_finite : Cert.Pre_xattn_finite.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Mlp (hMlp := hMlp)
    ∧ quiescent_MlpIdeal (hMlpIdeal := hMlpIdeal)
    ∧ quiescent_MlpRefIdeal (hMlpRefIdeal := hMlpRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_MemoryIn (hMemoryIn := hMemoryIn)
    ∧ quiescent_MemoryInIdeal (hMemoryInIdeal := hMemoryInIdeal)
    ∧ quiescent_MemoryInRefIdeal (hMemoryInRefIdeal := hMemoryInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Final (hFinal := hFinal)
    ∧ quiescent_FinalIdeal (hFinalIdeal := hFinalIdeal)
    ∧ quiescent_FinalRefIdeal (hFinalRefIdeal := hFinalRefIdeal)
    ∧ quiescent_FoxCum (hFoxCum := hFoxCum)
    ∧ quiescent_FoxCumIdeal (hFoxCumIdeal := hFoxCumIdeal)
    ∧ quiescent_FoxCumRefIdeal (hFoxCumRefIdeal := hFoxCumRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Mlp_MlpIdeal
    ∧ algebraic_MlpIdeal_MlpRefIdeal (hMlpIdeal := hMlpIdeal) (hMlpRefIdeal := hMlpRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_MemoryIn_MemoryInIdeal
    ∧ algebraic_MemoryInIdeal_MemoryInRefIdeal (hMemoryInIdeal := hMemoryInIdeal) (hMemoryInRefIdeal := hMemoryInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Final_FinalIdeal
    ∧ algebraic_FinalIdeal_FinalRefIdeal (hFinalIdeal := hFinalIdeal) (hFinalRefIdeal := hFinalRefIdeal)
    ∧ preserves_FoxCum_FoxCumIdeal
    ∧ algebraic_FoxCumIdeal_FoxCumRefIdeal (hFoxCumIdeal := hFoxCumIdeal) (hFoxCumRefIdeal := hFoxCumRefIdeal)
-- ==== Pre_fox_finite.lean ====
abbrev S32768x1024 : Shape := ⟨2, ![32768, 1024]⟩
abbrev S16x128x2048 : Shape := ⟨3, ![16, 128, 2048]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S16x128x2048 : S_.BroadcastsInDim S16x128x2048 (![] : Fin 0 → Fin S16x128x2048.rank)
  reducesTo_S16x128x2048_S_d0_1_2 : S16x128x2048.ReducesTo [0, 1, 2] S_

variable [Facts]

def fn {F : FTy → Type} [FloatOps F] (main_arg0 : FVec F S32768x1024 .bf16) (main_arg1 : FVec F S32768x1024 .bf16) (main_arg2 : FVec F S32768x1024 .bf16) (main_arg3 : FVec F S16x128x2048 .f32) : IVec S_ 1 × IVec S_ 1 × IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : FVec F S16x128x2048 .f32 := Host.absf main_arg3
  let main_cst_2 : FVec F S_ .f32 := constant S_ .f32 0x7F800000#32
  let main_v11 : FVec F S16x128x2048 .f32 := broadcastInDim S16x128x2048 ![] bcast_S_S16x128x2048 main_cst_2
  let main_v12 : IVec S16x128x2048 1 := cmpf .olt main_v10 main_v11
  let main_c_3 : IVec S_ 1 := constantI S_ 1 1#1
  let main_v13 : IVec S_ 1 := (fun x v => Host.reduce IntOp.andi x v reducesTo_S16x128x2048_S_d0_1_2 h_S_) main_v12 main_c_3
  (main_v4, main_v9, main_v13)
-- ==== Pre_xattn_finite.lean ====
abbrev S32768x1024 : Shape := ⟨2, ![32768, 1024]⟩
abbrev S1024 : Shape := ⟨1, ![1024]⟩
abbrev S1024x1024 : Shape := ⟨2, ![1024, 1024]⟩
abbrev S16x256x1024 : Shape := ⟨3, ![16, 256, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bitsLt_bf16_f32 : FTy.bits .bf16 < FTy.bits .f32
  bcast_S_S16x256x1024 : S_.BroadcastsInDim S16x256x1024 (![] : Fin 0 → Fin S16x256x1024.rank)
  reducesTo_S16x256x1024_S_d0_1_2 : S16x256x1024.ReducesTo [0, 1, 2] S_

variable [Facts]

def fn_part1 {F : FTy → Type} [FloatOps F] (main_v3 : IVec S_ 1) (main_v7 : IVec S_ 1) (main_v11 : IVec S_ 1) (main_v15 : IVec S16x256x1024 1) (main_c_5 : IVec S_ 1) : IVec S_ 1 × IVec S_ 1 × IVec S_ 1 × IVec S_ 1 :=
  let main_v16 : IVec S_ 1 := (fun x v => Host.reduce IntOp.andi x v reducesTo_S16x256x1024_S_d0_1_2 h_S_) main_v15 main_c_5
  (main_v3, main_v7, main_v11, main_v16)

def fn {F : FTy → Type} [FloatOps F] (main_arg0 : FVec F S32768x1024 .f32) (main_arg1 : FVec F S1024 .f32) (main_arg2 : FVec F S1024x1024 .f32) (main_arg3 : FVec F S16x256x1024 .bf16) (main_arg4 : FVec F S16x256x1024 .bf16) (main_arg5 : FVec F S1024x1024 .f32) : IVec S_ 1 × IVec S_ 1 × IVec S_ 1 × IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S16x256x1024 .f32 := (extf .f32 · bitsLt_bf16_f32) main_arg3
  let main_v13 : FVec F S16x256x1024 .f32 := Host.absf main_v12
  let main_cst_4 : FVec F S_ .f32 := constant S_ .f32 0x7F800000#32
  let main_v14 : FVec F S16x256x1024 .f32 := broadcastInDim S16x256x1024 ![] bcast_S_S16x256x1024 main_cst_4
  let main_v15 : IVec S16x256x1024 1 := cmpf .olt main_v13 main_v14
  let main_c_5 : IVec S_ 1 := constantI S_ 1 1#1
  fn_part1 (F := F) main_v3 main_v7 main_v11 main_v15 main_c_5
-- ==== Fox.lean ====
abbrev S32768x1024 : Shape := ⟨2, ![32768, 1024]⟩
abbrev S16x128x2048 : Shape := ⟨3, ![16, 128, 2048]⟩
abbrev S16x16x2048 : Shape := ⟨3, ![16, 16, 2048]⟩
abbrev S16x8x2x2048 : Shape := ⟨4, ![16, 8, 2, 2048]⟩
abbrev S16x2048x1024 : Shape := ⟨3, ![16, 2048, 1024]⟩
abbrev S1x256x128 : Shape := ⟨3, ![1, 256, 128]⟩
abbrev S1x2048x128 : Shape := ⟨3, ![1, 2048, 128]⟩
abbrev S1x1x2x2048 : Shape := ⟨4, ![1, 1, 2, 2048]⟩
abbrev S256x128 : Shape := ⟨2, ![256, 128]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x1x1x512 : Shape := ⟨4, ![1, 1, 1, 512]⟩
abbrev S1x512 : Shape := ⟨2, ![1, 512]⟩
abbrev S1x768x128 : Shape := ⟨3, ![1, 768, 128]⟩
abbrev S768x128 : Shape := ⟨2, ![768, 128]⟩
abbrev S256x768 : Shape := ⟨2, ![256, 768]⟩
abbrev S1x1x1x768 : Shape := ⟨4, ![1, 1, 1, 768]⟩
abbrev S1x768 : Shape := ⟨2, ![1, 768]⟩
abbrev S1x1024x128 : Shape := ⟨3, ![1, 1024, 128]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S1x1280x128 : Shape := ⟨3, ![1, 1280, 128]⟩
abbrev S1280x128 : Shape := ⟨2, ![1280, 128]⟩
abbrev S256x1280 : Shape := ⟨2, ![256, 1280]⟩
abbrev S1x1x1x1280 : Shape := ⟨4, ![1, 1, 1, 1280]⟩
abbrev S1x1280 : Shape := ⟨2, ![1, 1280]⟩
abbrev S1x1536x128 : Shape := ⟨3, ![1, 1536, 128]⟩
abbrev S1536x128 : Shape := ⟨2, ![1536, 128]⟩
abbrev S256x1536 : Shape := ⟨2, ![256, 1536]⟩
abbrev S1x1x1x1536 : Shape := ⟨4, ![1, 1, 1, 1536]⟩
abbrev S1x1536 : Shape := ⟨2, ![1, 1536]⟩
abbrev S1x1792x128 : Shape := ⟨3, ![1, 1792, 128]⟩
abbrev S1792x128 : Shape := ⟨2, ![1792, 128]⟩
abbrev S256x1792 : Shape := ⟨2, ![256, 1792]⟩
abbrev S1x1x1x1792 : Shape := ⟨4, ![1, 1, 1, 1792]⟩
abbrev S1x1792 : Shape := ⟨2, ![1, 1792]⟩
abbrev S2048x128 : Shape := ⟨2, ![2048, 128]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S16x128x2048, .f32⟩
  | .hbm, ⟨4, _⟩ => ⟨S16x16x2048, .f32⟩
  | .hbm, ⟨5, _⟩ => ⟨S16x8x2x2048, .f32⟩
  | .hbm, ⟨6, _⟩ => ⟨S16x2048x1024, .bf16⟩
  | .hbm, ⟨7, _⟩ => ⟨S16x2048x1024, .bf16⟩
  | .hbm, ⟨8, _⟩ => ⟨S16x2048x1024, .bf16⟩
  | .hbm, ⟨9, _⟩ => ⟨S16x2048x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x2x2048, .f32⟩
  | .local _ .vmem, ⟨7, _⟩ => ⟨S1x1x2x2048, .f32⟩
  | .local _ .vmem, ⟨8, _⟩ => ⟨S1x256x128, .bf16⟩
  | .local _ .vmem, ⟨9, _⟩ => ⟨S1x256x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_1 : BitVec 32 := 0#32
  let v9 : BitVec 1 := Scalar.cmpi .ne v8 c0_i32_1
  v9

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_2 : BitVec 32 := 0#32
  let v12 : BitVec 1 := Scalar.cmpi .ne v11 c0_i32_2
  v12

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_3 : BitVec 32 := 0#32
  let v15 : BitVec 1 := Scalar.cmpi .ne v14 c0_i32_3
  v15

def k0_cond5 (i : grid0.Coords) : BitVec 1 :=
  let arg2 : BitVec 32 := BitVec.ofNat 32 (i 2).val
  let c4_i32 : BitVec 32 := 4#32
  let v16 : BitVec 1 := Scalar.cmpi .eq arg2 c4_i32
  let v17 : BitVec 32 := Scalar.extui v16
  let c0_i32_4 : BitVec 32 := 0#32
  let v18 : BitVec 1 := Scalar.cmpi .ne v17 c0_i32_4
  v18

def k0_cond6 (i : grid0.Coords) : BitVec 1 :=
  let arg2 : BitVec 32 := BitVec.ofNat 32 (i 2).val
  let c5_i32 : BitVec 32 := 5#32
  let v19 : BitVec 1 := Scalar.cmpi .eq arg2 c5_i32
  let v20 : BitVec 32 := Scalar.extui v19
  let c0_i32_5 : BitVec 32 := 0#32
  let v21 : BitVec 1 := Scalar.cmpi .ne v20 c0_i32_5
  v21

def k0_cond7 (i : grid0.Coords) : BitVec 1 :=
  let arg2 : BitVec 32 := BitVec.ofNat 32 (i 2).val
  let c6_i32 : BitVec 32 := 6#32
  let v22 : BitVec 1 := Scalar.cmpi .eq arg2 c6_i32
  let v23 : BitVec 32 := Scalar.extui v22
  let c0_i32_6 : BitVec 32 := 0#32
  let v24 : BitVec 1 := Scalar.cmpi .ne v23 c0_i32_6
  v24

def k0_cond8 (i : grid0.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_7 : BitVec 32 := 0#32
  let v27 : BitVec 1 := Scalar.cmpi .ne v26 c0_i32_7
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxRefIdeal.lean ====
abbrev S32768x1024 : Shape := ⟨2, ![32768, 1024]⟩
abbrev S16x128x2048 : Shape := ⟨3, ![16, 128, 2048]⟩
abbrev S16x2048x16x64 : Shape := ⟨4, ![16, 2048, 16, 64]⟩
abbrev S16x16x2048 : Shape := ⟨3, ![16, 16, 2048]⟩
abbrev S16x16x2048x2048 : Shape := ⟨4, ![16, 16, 2048, 2048]⟩
abbrev S_ : Shape := ⟨0, ![]⟩
abbrev S16x16x2048x1 : Shape := ⟨4, ![16, 16, 2048, 1]⟩
abbrev S16x16x1x2048 : Shape := ⟨4, ![16, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x16x64x2048 : Shape := ⟨4, ![16, 16, 64, 2048]⟩
abbrev S16x2048x1024 : Shape := ⟨3, ![16, 2048, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S16x128x2048, .f32⟩
  | .hbm, ⟨4, _⟩ => ⟨S32768x1024, .f32⟩
  | .hbm, ⟨5, _⟩ => ⟨S16x2048x16x64, .f32⟩
  | .hbm, ⟨6, _⟩ => ⟨S32768x1024, .f32⟩
  | .hbm, ⟨7, _⟩ => ⟨S16x2048x16x64, .f32⟩
  | .hbm, ⟨8, _⟩ => ⟨S32768x1024, .f32⟩
  | .hbm, ⟨9, _⟩ => ⟨S16x2048x16x64, .f32⟩
  | .hbm, ⟨10, _⟩ => ⟨S16x16x2048, .f32⟩
  | .hbm, ⟨11, _⟩ => ⟨S16x16x2048x2048, .f32⟩
  | .hbm, ⟨12, _⟩ => ⟨S_, .f32⟩
  | .hbm, ⟨13, _⟩ => ⟨S16x16x2048x2048, .f32⟩
  | .hbm, ⟨14, _⟩ => ⟨S16x16x2048x2048, .f32⟩
  | .hbm, ⟨15, _⟩ => ⟨S16x16x2048x1, .f32⟩
  | .hbm, ⟨16, _⟩ => ⟨S16x16x2048x2048, .f32⟩
  | .hbm, ⟨17, _⟩ => ⟨S16x16x2048x2048, .f32⟩
  | .hbm, ⟨18, _⟩ => ⟨S16x16x1x2048, .f32⟩
  | .hbm, ⟨19, _⟩ => ⟨S16x16x2048x2048, .f32⟩
  | .hbm, ⟨20, _⟩ => ⟨S16x16x2048x2048, .f32⟩
  | .hbm, ⟨21, _⟩ => ⟨S2048, .i32⟩
  | .hbm, ⟨22, _⟩ => ⟨S2048x1, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S16x16x2048x2048, .i1⟩
  | .hbm, ⟨31, _⟩ => ⟨S16x16x2048x2048, .f32⟩
  | .hbm, ⟨32, _⟩ => ⟨S16x16x2048x2048, .f32⟩
  | .hbm, ⟨33, _⟩ => ⟨S_, .f32⟩
  | .hbm, ⟨34, _⟩ => ⟨S16x16x2048, .f32⟩
  | .hbm, ⟨35, _⟩ => ⟨S_, .f32⟩
  | .hbm, ⟨36, _⟩ => ⟨S16x16x2048, .f32⟩
  | .hbm, ⟨37, _⟩ => ⟨S16x16x2048, .f32⟩
  | .hbm, ⟨38, _⟩ => ⟨S16x16x2048x1, .f32⟩
  | .hbm, ⟨39, _⟩ => ⟨S16x16x2048x2048, .f32⟩
  | .hbm, ⟨40, _⟩ => ⟨S16x16x2048x2048, .f32⟩
  | .hbm, ⟨41, _⟩ => ⟨S16x16x2048x2048, .f32⟩
  | .hbm, ⟨42, _⟩ => ⟨S_, .f32⟩
  | .hbm, ⟨43, _⟩ => ⟨S16x16x2048, .f32⟩
  | .hbm, ⟨44, _⟩ => ⟨S16x16x2048x1, .f32⟩
  | .hbm, ⟨45, _⟩ => ⟨S16x16x2048x2048, .f32⟩
  | .hbm, ⟨46, _⟩ => ⟨S16x16x2048x2048, .f32⟩
  | .hbm, ⟨47, _⟩ => ⟨S16x16x64x2048, .f32⟩
  | .hbm, ⟨48, _⟩ => ⟨S16x2048x16x64, .f32⟩
  | .hbm, ⟨49, _⟩ => ⟨S16x2048x1024, .f32⟩
  | .hbm, ⟨50, _⟩ => ⟨S16x2048x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Xattn.lean ====
abbrev S32768x1024 : Shape := ⟨2, ![32768, 1024]⟩
abbrev S1024 : Shape := ⟨1, ![1024]⟩
abbrev S1024x1024 : Shape := ⟨2, ![1024, 1024]⟩
abbrev S16x256x1024 : Shape := ⟨3, ![16, 256, 1024]⟩
abbrev S1x1024 : Shape := ⟨2, ![1, 1024]⟩
abbrev S512x1024 : Shape := ⟨2, ![512, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S16x256x1024, .bf16⟩
  | .hbm, ⟨4, _⟩ => ⟨S16x256x1024, .bf16⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== XattnRefIdeal.lean ====
abbrev S32768x1024 : Shape := ⟨2, ![32768, 1024]⟩
abbrev S1024 : Shape := ⟨1, ![1024]⟩
abbrev S1024x1024 : Shape := ⟨2, ![1024, 1024]⟩
abbrev S16x256x1024 : Shape := ⟨3, ![16, 256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S16x256x1024, .bf16⟩
  | .hbm, ⟨4, _⟩ => ⟨S16x256x1024, .bf16⟩
  | .hbm, ⟨5, _⟩ => ⟨S1024x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S16x2048x4x256, .f32⟩
  | .hbm, ⟨24, _⟩ => ⟨S16x256x1024, .f32⟩
  | .hbm, ⟨25, _⟩ => ⟨S16x256x4x256, .f32⟩
  | .hbm, ⟨26, _⟩ => ⟨S16x256x1024, .f32⟩
  | .hbm, ⟨27, _⟩ => ⟨S16x256x4x256, .f32⟩
  | .hbm, ⟨28, _⟩ => ⟨S16x4x2048x256, .f32⟩
  | .hbm, ⟨29, _⟩ => ⟨S_, .f32⟩
  | .hbm, ⟨30, _⟩ => ⟨S16x4x2048x256, .f32⟩
  | .hbm, ⟨31, _⟩ => ⟨S16x4x2048x256, .f32⟩
  | .hbm, ⟨32, _⟩ => ⟨S_, .f32⟩
  | .hbm, ⟨33, _⟩ => ⟨S16x4x2048, .f32⟩
  | .hbm, ⟨34, _⟩ => ⟨S_, .f32⟩
  | .hbm, ⟨35, _⟩ => ⟨S16x4x2048, .f32⟩
  | .hbm, ⟨36, _⟩ => ⟨S16x4x2048, .f32⟩
  | .hbm, ⟨37, _⟩ => ⟨S16x4x2048x1, .f32⟩
  | .hbm, ⟨38, _⟩ => ⟨S16x4x2048x256, .f32⟩
  | .hbm, ⟨39, _⟩ => ⟨S16x4x2048x256, .f32⟩
  | .hbm, ⟨40, _⟩ => ⟨S16x4x2048x256, .f32⟩
  | .hbm, ⟨41, _⟩ => ⟨S_, .f32⟩
  | .hbm, ⟨42, _⟩ => ⟨S16x4x2048, .f32⟩
  | .hbm, ⟨43, _⟩ => ⟨S16x4x2048x1, .f32⟩
  | .hbm, ⟨44, _⟩ => ⟨S16x4x2048x256, .f32⟩
  | .hbm, ⟨45, _⟩ => ⟨S16x4x2048x256, .f32⟩
  | .hbm, ⟨46, _⟩ => ⟨S16x4x256x2048, .f32⟩
  | .hbm, ⟨47, _⟩ => ⟨S16x2048x4x256, .f32⟩
  | .hbm, ⟨48, _⟩ => ⟨S32768x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x4096, .f32⟩
  | .hbm, ⟨21, _⟩ => ⟨S_, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S32768x1024, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== EvenIn.lean ====
abbrev S32768x1024 : Shape := ⟨2, ![32768, 1024]⟩
abbrev S1024 : Shape := ⟨1, ![1024]⟩
abbrev S1024x3584 : Shape := ⟨2, ![1024, 3584]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 12
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S1024x3584, .bf16⟩
  | .hbm, ⟨4, _⟩ => ⟨S1x1024, .f32⟩
  | .hbm, ⟨5, _⟩ => ⟨S32768x512, .bf16⟩
  | .hbm, ⟨6, _⟩ => ⟨S32768x512, .f32⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenInRefIdeal.lean ====
abbrev S32768x1024 : Shape := ⟨2, ![32768, 1024]⟩
abbrev S1024 : Shape := ⟨1, ![1024]⟩
abbrev S1024x3584 : Shape := ⟨2, ![1024, 3584]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩
abbrev S32768x512 : Shape := ⟨2, ![32768, 512]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3584, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .bf16⟩
  | .hbm, ⟨29, _⟩ => ⟨S32768x512, .bf16⟩
  | .hbm, ⟨30, _⟩ => ⟨S32768x512, .bf16⟩
  | .hbm, ⟨31, _⟩ => ⟨S32768x512, .bf16⟩
  | .hbm, ⟨32, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== OddIn.lean ====
abbrev S32768x1024 : Shape := ⟨2, ![32768, 1024]⟩
abbrev S1024 : Shape := ⟨1, ![1024]⟩
abbrev S1024x3088 : Shape := ⟨2, ![1024, 3088]⟩
abbrev S_ : Shape := ⟨0, ![]⟩
abbrev S1024x3200 : Shape := ⟨2, ![1024, 3200]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S32768x1024, .bf16⟩
  | .hbm, ⟨9, _⟩ => ⟨S32768x1024, .bf16⟩
  | .hbm, ⟨10, _⟩ => ⟨S32768x1024, .bf16⟩
  | .hbm, ⟨11, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddInRefIdeal.lean ====
abbrev S32768x1024 : Shape := ⟨2, ![32768, 1024]⟩
abbrev S1024 : Shape := ⟨1, ![1024]⟩
abbrev S1024x3088 : Shape := ⟨2, ![1024, 3088]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x16 : Shape := ⟨2, ![32768, 16]⟩
abbrev S32768x128 : Shape := ⟨2, ![32768, 128]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3088, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x16, .f32⟩
  | .hbm, ⟨24, _⟩ => ⟨S32768x1024, .bf16⟩
  | .hbm, ⟨25, _⟩ => ⟨S32768x1024, .bf16⟩
  | .hbm, ⟨26, _⟩ => ⟨S32768x1024, .bf16⟩
  | .hbm, ⟨27, _⟩ => ⟨S_, .i32⟩
  | .hbm, ⟨28, _⟩ => ⟨S_, .f32⟩
  | .hbm, ⟨29, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== MemoryIn.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S4096x1024, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryInRefIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== EvenOut.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutRefIdeal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OddOut.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Final.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FoxCum.lean ====
abbrev S32768x128 : Shape := ⟨2, ![32768, 128]⟩
abbrev S16 : Shape := ⟨1, ![16]⟩
abbrev S256x256 : Shape := ⟨2, ![256, 256]⟩
abbrev S_ : Shape := ⟨0, ![]⟩
abbrev S128 : Shape := ⟨1, ![128]⟩
abbrev S1x128 : Shape := ⟨2, ![1, 128]⟩
abbrev S16x2048x128 : Shape := ⟨3, ![16, 2048, 128]⟩
abbrev S16x128x2048 : Shape := ⟨3, ![16, 128, 2048]⟩
abbrev S1x2048x128 : Shape := ⟨3, ![1, 2048, 128]⟩
abbrev S1x128x2048 : Shape := ⟨3, ![1, 128, 2048]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 9
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S16, .f32⟩
  | .hbm, ⟨2, _⟩ => ⟨S256x256, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S16x2048x128, .f32⟩
  | .hbm, ⟨8, _⟩ => ⟨S16x128x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S256x256, .f32⟩
  | .local _ .vmem, ⟨4, _⟩ => ⟨S1x128x2048, .f32⟩
  | .local _ .vmem, ⟨5, _⟩ => ⟨S1x128x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxCumRefIdeal.lean ====
abbrev S32768x128 : Shape := ⟨2, ![32768, 128]⟩
abbrev S16 : Shape := ⟨1, ![16]⟩
abbrev S16x2048x128 : Shape := ⟨3, ![16, 2048, 128]⟩
abbrev S_ : Shape := ⟨0, ![]⟩
abbrev S128 : Shape := ⟨1, ![128]⟩
abbrev S1x1x128 : Shape := ⟨3, ![1, 1, 128]⟩
abbrev S16x128x2048 : Shape := ⟨3, ![16, 128, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16, .f32⟩
  | .hbm, ⟨2, _⟩ => ⟨S16x2048x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x1x128, .f32⟩
  | .hbm, ⟨7, _⟩ => ⟨S16x2048x128, .f32⟩
  | .hbm, ⟨8, _⟩ => ⟨S16x2048x128, .f32⟩
  | .hbm, ⟨9, _⟩ => ⟨S16x2048x128, .f32⟩
  | .hbm, ⟨10, _⟩ => ⟨S_, .f32⟩
  | .hbm, ⟨11, _⟩ => ⟨S16x2048x128, .f32⟩
  | .hbm, ⟨12, _⟩ => ⟨S16x2048x128, .f32⟩
  | .hbm, ⟨13, _⟩ => ⟨S16x2048x128, .f32⟩
  | .hbm, ⟨14, _⟩ => ⟨S16x2048x128, .f32⟩
  | .hbm, ⟨15, _⟩ => ⟨S16x2048x128, .i1⟩
  | .hbm, ⟨16, _⟩ => ⟨S16x2048x128, .f32⟩
  | .hbm, ⟨17, _⟩ => ⟨S16x2048x128, .f32⟩
  | .hbm, ⟨18, _⟩ => ⟨S16x2048x128, .f32⟩
  | .hbm, ⟨19, _⟩ => ⟨S16x2048x128, .f32⟩
  | .hbm, ⟨20, _⟩ => ⟨S16x2048x128, .f32⟩
  | .hbm, ⟨21, _⟩ => ⟨S16x2048x128, .f32⟩
  | .hbm, ⟨22, _⟩ => ⟨S16x2048x128, .f32⟩
  | .hbm, ⟨23, _⟩ => ⟨S16x2048x128, .f32⟩
  | .hbm, ⟨24, _⟩ => ⟨S16x2048x128, .f32⟩
  | .hbm, ⟨25, _⟩ => ⟨S_, .f32⟩
  | .hbm, ⟨26, _⟩ => ⟨S_, .f32⟩
  | .hbm, ⟨27, _⟩ => ⟨S16x2048x128, .f32⟩
  | .hbm, ⟨28, _⟩ => ⟨S16x128x2048, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Proof.Softmax.lean ====
/-
  The algebra of a softmax-weighted sum on the extended reals, for the attention kernels of this certificate.

  A kernel computes the weights `exp (zᵢ - max z)`, the weighted sum of the values and the sum of the weights, and divides one by
  the other (`quot`). The reference divides every weight by the sum of the weights first and then forms the weighted sum (`soft`).
  The two agree (`quot_eq_soft`) as soon as no logit is `+∞` and some logit is not `-∞`: the sum of the weights is then a real
  number that is at least 1, and multiplying by the inverse of such a number distributes over any sum of extended reals, so
  nothing is asked of the values. Adding one real number to every logit changes nothing (`soft_add`), and neither do masked
  logits, `-∞`, behind the others (`soft_prefix`).
-/
module

public import Idealize.ShloMosaic.PureOps.Ideal
public import Idealize.ShloMosaic.Lib.Pointwise

@[expose] public section

noncomputable section

open Idealize.ShloMosaic

namespace Cert.Softmax

variable {n : ℕ}

/-- The largest of the logits, starting from `-∞`. -/
def top (z : Fin n → EReal) : EReal := Finset.univ.fold max ⊥ z

/-- The weight of a logit before it is divided by the sum of the weights. -/
def weight (z : Fin n → EReal) (i : Fin n) : EReal := Ideal.exp (z i - top z)

/-- The weighted sum of the values over the sum of the weights. -/
def quot (z v : Fin n → EReal) : EReal := Ideal.div (∑ i, weight z i * v i) (∑ i, weight z i)

/-- The sum of the values under the weights, every weight divided by the sum of the weights. -/
def soft (z v : Fin n → EReal) : EReal := ∑ i, Ideal.div (weight z i) (∑ j, weight z j) * v i

/-- Logits of which none is `+∞` and at least one is not `-∞`. -/
structure Proper (z : Fin n → EReal) : Prop where
  ne_top : ∀ i, z i ≠ ⊤
  exists_ne_bot : ∃ i, z i ≠ ⊥

theorem top_eq_sup (z : Fin n → EReal) : top z = Finset.univ.sup z := rfl

theorem le_top (z : Fin n → EReal) (i : Fin n) : z i ≤ top z := by
  rw [top_eq_sup]; exact Finset.le_sup (Finset.mem_univ i)

/-- Some logit is the largest. -/
theorem Proper.exists_eq_top {z : Fin n → EReal} (h : Proper z) : ∃ i, z i = top z := by
  obtain ⟨i₀, _⟩ := h.exists_ne_bot
  obtain ⟨i, _, hi⟩ := Finset.exists_mem_eq_sup Finset.univ ⟨i₀, Finset.mem_univ _⟩ z
  exact ⟨i, by rw [top_eq_sup, hi]⟩

/-- The largest logit is a real number. -/
theorem Proper.top_real {z : Fin n → EReal} (h : Proper z) : ∃ M : ℝ, top z = M := by
  obtain ⟨i₀, h₀⟩ := h.exists_ne_bot
  obtain ⟨i, hi⟩ := h.exists_eq_top
  have hb : top z ≠ ⊥ := fun e => h₀ (le_bot_iff.mp (e ▸ le_top z i₀))
  exact ⟨(top z).toReal, (EReal.coe_toReal (hi ▸ h.ne_top i) hb).symm⟩

/-- Every weight is a real number that is not negative. -/
theorem Proper.weight_real {z : Fin n → EReal} (h : Proper z) : ∃ w : Fin n → ℝ, (∀ i, 0 ≤ w i) ∧ ∀ i, weight z i = w i := by
  obtain ⟨M, hM⟩ := h.top_real
  have key (i : Fin n) : ∃ w : ℝ, 0 ≤ w ∧ weight z i = w := by
    unfold weight
    rw [hM]
    induction e : z i with
    | bot => exact ⟨0, le_rfl, by rw [EReal.bot_sub]; rfl⟩
    | top => exact absurd e (h.ne_top i)
    | coe x => exact ⟨Real.exp (x - M), (Real.exp_pos _).le, by rw [← EReal.coe_sub]; rfl⟩
  choose w h0 hw using key
  exact ⟨w, h0, hw⟩

/-- The sum of real numbers, formed among the extended reals. -/
theorem sum_coe (f : Fin n → ℝ) : ∑ i, (f i : EReal) = ((∑ i, f i : ℝ) : EReal) :=
  (map_sum (⟨⟨Real.toEReal, EReal.coe_zero⟩, EReal.coe_add⟩ : ℝ →+ EReal) f Finset.univ).symm

/-- The sum of the weights is a positive real number. -/
theorem Proper.sum_weight {z : Fin n → EReal} (h : Proper z) : ∃ l : ℝ, 0 < l ∧ ∑ i, weight z i = l := by
  obtain ⟨w, h0, hw⟩ := h.weight_real
  obtain ⟨M, hM⟩ := h.top_real
  obtain ⟨i, hi⟩ := h.exists_eq_top
  have h1 : w i = 1 := by
    have : weight z i = 1 := by
      unfold weight
      rw [hi, hM, ← EReal.coe_sub, sub_self]
      show ((Real.exp 0 : ℝ) : EReal) = 1
      rw [Real.exp_zero]; rfl
    rw [hw] at this
    exact_mod_cast this
  refine ⟨∑ i, w i, ?_, by simp only [hw, sum_coe]⟩
  calc (0 : ℝ) < w i := by rw [h1]; exact one_pos
    _ ≤ ∑ i, w i := Finset.single_le_sum (fun j _ => h0 j) (Finset.mem_univ i)

/-- A real number that is not negative goes into a sum of extended reals. -/
theorem sum_mul_coe (f : Fin n → EReal) {c : ℝ} (hc : 0 ≤ c) : (∑ i, f i) * (c : EReal) = ∑ i, f i * c := by
  induction n with
  | zero => simp
  | succ k ih =>
    rw [Fin.sum_univ_succ, Fin.sum_univ_succ, ← ih,
      EReal.right_distrib_of_nonneg_of_ne_top (by exact_mod_cast hc) (EReal.coe_ne_top c)]

theorem quot_eq_soft {z : Fin n → EReal} (h : Proper z) (v : Fin n → EReal) : quot z v = soft z v := by
  obtain ⟨l, hl, e⟩ := h.sum_weight
  have hne : (l : EReal) ≠ 0 := by exact_mod_cast hl.ne'
  unfold quot soft
  simp only [e, Ideal.div, if_neg hne]
  rw [← EReal.coe_inv, sum_mul_coe _ (inv_nonneg.mpr hl.le)]
  exact Finset.sum_congr rfl fun i _ => mul_right_comm _ _ _

/-- Adding one real number to every logit adds it to the largest. -/
theorem top_add (z : Fin n → EReal) (c : ℝ) (hz : ∃ i, z i = top z) : top (fun i => z i + c) = top z + c := by
  obtain ⟨i, hi⟩ := hz
  apply le_antisymm
  · rw [top_eq_sup]
    exact Finset.sup_le fun j _ => add_le_add_left (le_top z j) _
  · rw [← hi]; exact le_top (fun i => z i + (c : EReal)) i

theorem weight_add {z : Fin n → EReal} (h : Proper z) (c : ℝ) (i : Fin n) : weight (fun i => z i + c) i = weight z i := by
  obtain ⟨M, hM⟩ := h.top_real
  unfold weight
  rw [top_add z c h.exists_eq_top, hM]
  congr 1
  show z i + (c : EReal) - ((M : EReal) + c) = z i - M
  cases e : z i with
  | bot => rw [EReal.bot_add, EReal.bot_sub, EReal.bot_sub]
  | top => exact absurd e (h.ne_top i)
  | coe x => rw [← EReal.coe_add, ← EReal.coe_add, ← EReal.coe_sub, ← EReal.coe_sub]; congr 1; ring

theorem soft_add {z : Fin n → EReal} (h : Proper z) (c : ℝ) (v : Fin n → EReal) : soft (fun i => z i + c) v = soft z v := by
  simp only [soft, weight_add h c]

/-- A sum over `p + b + r` terms of which the last `r` are zero, as the sum of the first `p` and the sum of the next `b`. -/
theorem sum_prefix {p b r : ℕ} (hn : n = p + b + r) (g : Fin n → EReal) (hg : ∀ j : Fin n, p + b ≤ j.val → g j = 0) :
    ∑ j, g j = (∑ i : Fin p, g ⟨i.val, by omega⟩) + ∑ i : Fin b, g ⟨p + i.val, by omega⟩ := by
  subst hn
  rw [Fin.sum_univ_add, Fin.sum_univ_add, Finset.sum_eq_zero (s := (Finset.univ : Finset (Fin r))), add_zero]
  · rfl
  · exact fun i _ => hg _ (by simp)

/-- The largest of `p + b + r` logits of which the last `r` are masked. -/
theorem top_prefix {p b r : ℕ} (hn : n = p + b + r) (z : Fin n → EReal) (hz : ∀ j : Fin n, p + b ≤ j.val → z j = ⊥) :
    top z = max (top fun i : Fin p => z ⟨i.val, by omega⟩) (top fun i : Fin b => z ⟨p + i.val, by omega⟩) := by
  apply le_antisymm
  · rw [top_eq_sup]
    refine Finset.sup_le fun j _ => ?_
    by_cases h1 : j.val < p
    · exact le_max_of_le_left (le_top (fun i : Fin p => z ⟨i.val, by omega⟩) ⟨j.val, h1⟩)
    · by_cases h2 : j.val < p + b
      · refine le_max_of_le_right ?_
        have := le_top (fun i : Fin b => z ⟨p + i.val, by omega⟩) ⟨j.val - p, by omega⟩
        have e : (⟨p + (j.val - p), by omega⟩ : Fin n) = j := Fin.ext (by simp only; omega)
        simpa only [e] using this
      · rw [hz j (by omega)]; exact bot_le
  · refine max_le ?_ ?_ <;> rw [top_eq_sup (n := _)] <;> exact Finset.sup_le fun i _ => le_top z _

/-- Masked logits behind the others count for nothing: `quot` over `p + b + r` logits of which the last `r` are masked, from the
    first `p` and the next `b`. -/
theorem quot_prefix {p b r : ℕ} (hn : n = p + b + r) (z v : Fin n → EReal)
    (hz : ∀ j : Fin n, p + b ≤ j.val → z j = ⊥) (M : EReal)
    (hM : M = max (top fun i : Fin p => z ⟨i.val, by omega⟩) (top fun i : Fin b => z ⟨p + i.val, by omega⟩)) :
    quot z v = Ideal.div
      ((∑ i : Fin p, Ideal.exp (z ⟨i.val, by omega⟩ - M) * v ⟨i.val, by omega⟩)
        + ∑ i : Fin b, Ideal.exp (z ⟨p + i.val, by omega⟩ - M) * v ⟨p + i.val, by omega⟩)
      ((∑ i : Fin p, Ideal.exp (z ⟨i.val, by omega⟩ - M)) + ∑ i : Fin b, Ideal.exp (z ⟨p + i.val, by omega⟩ - M)) := by
  have e : top z = M := by rw [hM, top_prefix hn z hz]
  have w0 (j : Fin n) (hj : p + b ≤ j.val) : weight z j = 0 := by
    unfold weight; rw [hz j hj, EReal.bot_sub]; rfl
  unfold quot
  rw [sum_prefix hn (fun j => weight z j * v j) (fun j hj => by rw [w0 j hj, zero_mul]), sum_prefix hn (weight z) w0]
  simp only [weight, e]

end Cert.Softmax

end
-- ==== Proof.Reals.lean ====
module

public import proofs.«01_k».proof.Proof.Softmax
public import Idealize.ShloMosaic.Lib.ReduceAll
public import Idealize.ShloMosaic.Lib.IdealHost

/-! Extended reals that are real numbers: what keeps them so, the constants of the two attentions, and the elements of an array of
    which `all(abs(x) < inf)` holds. -/

@[expose] public section

noncomputable section

open Idealize.ShloMosaic

namespace Cert.Reals

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {n : ℕ} {f : Fin n → EReal} (h : ∀ i, IsReal (f i)) : IsReal (∑ i, f i) := by
  choose r hr using h
  exact ⟨∑ i, r i, by rw [← Softmax.sum_coe]; exact Finset.sum_congr rfl fun i _ => hr i⟩

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

/-- Real logits, at least one of them, have a softmax. -/
theorem proper {n : ℕ} [NeZero n] {z : Fin n → EReal} (h : ∀ i, IsReal (z i)) : Softmax.Proper z :=
  ⟨fun i => (h i).ne_top, ⟨0, (h 0).ne_bot⟩⟩

/-! ## Constants -/

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

theorem bits_sixteenth : Ideal.ofBits .f32 0x3D800000#32 = ((1 / 16 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_width : Ideal.ofBits .f32 0x44800000#32 = ((1024 : ℝ) : EReal) := by
  simp [Ideal.ofBits, Ideal.ieee, -EReal.coe_mul]; norm_num

/-- The norm's small constant is a positive real number. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-! ## The norm -/

/-- The reciprocal root of the mean square of a row of real numbers is a real number. -/
theorem isReal_rsqrt {n : ℕ} {f : Fin n → EReal} (h : ∀ i, IsReal (f i)) :
    IsReal (Ideal.rsqrt (Ideal.div (∑ i, f i * f i) (Ideal.ofBits .f32 0x44800000#32) + Ideal.ofBits .f32 0x358637BD#32)) := by
  choose r hr using h
  obtain ⟨e, he, he'⟩ := bits_eps
  have hs : (∑ i, f i * f i) = ((∑ i, r i * r i : ℝ) : EReal) := by
    rw [← Softmax.sum_coe]
    exact Finset.sum_congr rfl fun i _ => by rw [hr i, EReal.coe_mul]
  have hd : Ideal.div (((∑ i, r i * r i : ℝ) : EReal)) ((1024 : ℝ) : EReal) = (((∑ i, r i * r i) * 1024⁻¹ : ℝ) : EReal) := by
    unfold Ideal.div
    rw [if_neg (by exact_mod_cast (by norm_num : (1024 : ℝ) ≠ 0)), ← EReal.coe_inv, ← EReal.coe_mul]
  rw [hs, bits_width, hd, he', ← EReal.coe_add]
  have hp : 0 < (∑ i, r i * r i) * 1024⁻¹ + e :=
    add_pos_of_nonneg_of_pos (mul_nonneg (Finset.sum_nonneg fun i _ => mul_self_nonneg _) (by norm_num)) he
  refine ⟨(Real.sqrt ((∑ i, r i * r i) * 1024⁻¹ + e))⁻¹, ?_⟩
  show (if _ < (0 : ℝ) then (⊥ : EReal) else if _ = (0 : ℝ) then ⊤ else _) = _
  rw [if_neg hp.not_gt, if_neg hp.ne']

/-! ## Preconditions -/

/-- An extended real whose magnitude is below `+∞` is a real number. -/
theorem isReal_of_abs {x : EReal} (h : Ideal.cmp .olt (max x (-x)) ⊤ = 1#1) : IsReal x := by
  induction x with
  | bot => simp [Ideal.cmp] at h
  | top => simp [Ideal.cmp] at h
  | coe r => exact ⟨r, rfl⟩

/-- An array of which `all(abs(x) < inf)` holds has real elements. -/
theorem isReal_of_all {s t : Shape} {axes : List (Fin s.rank)} [Subsingleton t.Idx] {x : FVec Ideal s .f32} {d : Fin t.rank → Fin s.rank}
    {hb : t.BroadcastsInDim s d} {h : s.ReducesTo axes t} {hu : 0 < t.numel} (j : t.Idx)
    (e : Host.reduce IntOp.andi (cmpf .olt (Host.absf x) (broadcastInDim s d hb (constant t .f32 0x7F800000#32))) (constantI t 1 1#1) h hu = fun _ => 1#1)
    (i : s.Idx) : IsReal (x i) := by
  refine isReal_of_abs ?_
  have := Host.reduce_andi_all _ _ h hu j (congrFun e j) i
  rw [← bits_top]
  exact this

end Cert.Reals
-- ==== Proof.FoxCore.lean ====
module

public import proofs.«01_k».proof.Proof.Softmax
public import proofs.«01_k».proof.Proof.Reals
public import Idealize.ShloMosaic.Lib.WordCmp
public import Idealize.ShloMosaic.Lib.Pointwise

/-! The forgetting attention of one query over the keys up to its own position, and the reading of the kernel's masks: a block of
    queries meets the blocks of keys before it whole and its own block under a triangle, two heads side by side in 128 lanes. -/

@[expose] public section

noncomputable section

open Idealize.ShloMosaic

namespace Cert.Fox

open Cert.Softmax Cert.Reals

/-- The scale of the queries, in the kernel's format. -/
theorem bits_eighth16 : Ideal.ofBits .bf16 0x3E00#16 = ((1 / 8 : ℝ) : EReal) := by
  simp [Ideal.ofBits, Ideal.ieee, -EReal.coe_mul]; norm_num

/-! ## Masks -/

theorem sel_slt {α : Type} {a b : ℕ} (ha : a < 2 ^ 31) (hb : b < 2 ^ 31) (u v : α) :
    Scalar.select (IntOp.cmpi .slt (BitVec.ofNat 32 a) (BitVec.ofNat 32 b)) u v = if a < b then u else v := by
  rw [WordCmp.cmpi_slt_ofNat ha hb]
  unfold Scalar.select
  by_cases h : a < b <;> simp [h]

theorem sel_sge {α : Type} {a b : ℕ} (ha : a < 2 ^ 31) (hb : b < 2 ^ 31) (u v : α) :
    Scalar.select (IntOp.cmpi .sge (BitVec.ofNat 32 a) (BitVec.ofNat 32 b)) u v = if b ≤ a then u else v := by
  rw [WordCmp.cmpi_sge_ofNat ha hb]
  unfold Scalar.select
  by_cases h : b ≤ a <;> simp [h]

/-- A sum over 128 lanes of which the upper half is masked. -/
theorem sum_low (f : Fin 128 → EReal) :
    (∑ x : Fin 128, Scalar.select (IntOp.cmpi .slt (BitVec.ofNat 32 x.val) 64#32) (f x) 0) = ∑ d : Fin 64, f ⟨d.val, by omega⟩ := by
  have e (x : Fin 128) : Scalar.select (IntOp.cmpi .slt (BitVec.ofNat 32 x.val) 64#32) (f x) 0 = if x.val < 64 then f x else 0 :=
    sel_slt (by omega) (by norm_num) _ _
  simp only [e]
  rw [sum_prefix (p := 64) (b := 64) (r := 0) rfl _ (fun j hj => absurd j.isLt (by omega)),
    Finset.sum_eq_zero (f := fun i : Fin 64 => if 64 + i.val < 64 then f ⟨64 + i.val, by omega⟩ else 0) (fun i _ => if_neg (by omega)), add_zero]
  exact Finset.sum_congr rfl fun d _ => if_pos d.isLt

/-- A sum over 128 lanes of which the lower half is masked. -/
theorem sum_high (f : Fin 128 → EReal) :
    (∑ x : Fin 128, Scalar.select (IntOp.cmpi .sge (BitVec.ofNat 32 x.val) 64#32) (f x) 0) = ∑ d : Fin 64, f ⟨64 + d.val, by omega⟩ := by
  have e (x : Fin 128) : Scalar.select (IntOp.cmpi .sge (BitVec.ofNat 32 x.val) 64#32) (f x) 0 = if 64 ≤ x.val then f x else 0 :=
    sel_sge (by omega) (by norm_num) _ _
  simp only [e]
  rw [sum_prefix (p := 64) (b := 64) (r := 0) rfl _ (fun j hj => absurd j.isLt (by omega)),
    Finset.sum_eq_zero (f := fun i : Fin 64 => if 64 ≤ i.val then f ⟨i.val, by omega⟩ else 0) (fun i _ => if_neg (by omega)), zero_add]
  exact Finset.sum_congr rfl fun d _ => if_pos (by simp only; omega)

/-- The causal mask within a block. -/
theorem sel_causal {α : Type} (r j : Fin 256) (u v : α) :
    Scalar.select (IntOp.cmpi .sge (BitVec.ofNat 32 r.val) (BitVec.ofNat 32 j.val)) u v = if j.val ≤ r.val then u else v :=
  sel_sge (by omega) (by omega) _ _

/-! ## Logits -/

variable {n : ℕ}

/-- A query's logits against `n` keys: the scaled products less the keys' cumulative gates, masked behind the position `last`. -/
def logit (q : Fin 64 → EReal) (K : Fin n → Fin 64 → EReal) (C : Fin n → EReal) (last : ℕ) (j : Fin n) : EReal :=
  if j.val ≤ last then (∑ d, q d * ((1 / 8 : ℝ) : EReal) * K j d) - C j else ⊥

/-- A weight over `p + 256` keys from the two parts the kernel keeps. -/
theorem weight_parts {p : ℕ} (hn : n = p + 256) (z : Fin n → EReal) (j : Fin n) :
    weight z j = if h : j.val < p then
        Ideal.exp (z ⟨j.val, j.isLt⟩ - max (top fun i : Fin p => z ⟨i.val, by omega⟩) (top fun i : Fin 256 => z ⟨p + i.val, by omega⟩))
      else Ideal.exp (z ⟨p + (j.val - p), by omega⟩
        - max (top fun i : Fin p => z ⟨i.val, by omega⟩) (top fun i : Fin 256 => z ⟨p + i.val, by omega⟩)) := by
  have e := top_prefix (p := p) (b := 256) (r := 0) hn z (fun j hj => absurd j.isLt (by omega))
  unfold weight
  rw [e]
  by_cases h : j.val < p
  · rw [dif_pos h]
  · rw [dif_neg h]
    have ej : (⟨p + (j.val - p), by omega⟩ : Fin n) = j := Fin.ext (by simp only; omega)
    rw [ej]

/-- `weight_parts` for a query's logits, the query being the `r`-th of the block behind the first `p` keys. -/
theorem weight_logit {p : ℕ} (hn : n = p + 256) (q : Fin 64 → EReal) (K : Fin n → Fin 64 → EReal) (C : Fin n → EReal) (r : ℕ) (j : Fin n)
    (M : EReal) (hM : M = max (top fun i : Fin p => (∑ d, q d * ((1 / 8 : ℝ) : EReal) * K ⟨i.val, by omega⟩ d) - C ⟨i.val, by omega⟩)
      (top fun i : Fin 256 => if i.val ≤ r then (∑ d, q d * ((1 / 8 : ℝ) : EReal) * K ⟨p + i.val, by omega⟩ d) - C ⟨p + i.val, by omega⟩ else ⊥)) :
    weight (logit q K C (p + r)) j = if h : j.val < p then Ideal.exp ((∑ d, q d * ((1 / 8 : ℝ) : EReal) * K j d) - C j - M)
      else Ideal.exp ((if j.val - p ≤ r then (∑ d, q d * ((1 / 8 : ℝ) : EReal) * K ⟨p + (j.val - p), by omega⟩ d)
        - C ⟨p + (j.val - p), by omega⟩ else ⊥) - M) := by
  have past (i : ℕ) (hi : i < n) (h : i < p) :
      logit q K C (p + r) ⟨i, hi⟩ = (∑ d, q d * ((1 / 8 : ℝ) : EReal) * K ⟨i, hi⟩ d) - C ⟨i, hi⟩ := if_pos (by simp only; omega)
  have own (i : ℕ) (hi : p + i < n) :
      logit q K C (p + r) ⟨p + i, hi⟩ = if i ≤ r then (∑ d, q d * ((1 / 8 : ℝ) : EReal) * K ⟨p + i, hi⟩ d) - C ⟨p + i, hi⟩ else ⊥ := by
    unfold logit
    simp only [Nat.add_le_add_iff_left]
  have eM : max (top fun i : Fin p => logit q K C (p + r) ⟨i.val, by omega⟩) (top fun i : Fin 256 => logit q K C (p + r) ⟨p + i.val, by omega⟩) = M := by
    rw [hM]
    congr 2
    · exact funext fun i => past _ _ i.isLt
    · exact funext fun i => own _ _
  rw [weight_parts hn, eM]
  by_cases h : j.val < p
  · rw [dif_pos h, dif_pos h, past _ _ h]
  · rw [dif_neg h, dif_neg h, own]

/-- Masked keys behind the first `k` count for nothing. -/
theorem quot_take {k : ℕ} (hk : k ≤ n) (z v : Fin n → EReal) (hz : ∀ j : Fin n, k ≤ j.val → z j = ⊥) :
    quot (fun i : Fin k => z ⟨i.val, by omega⟩) (fun i : Fin k => v ⟨i.val, by omega⟩) = quot z v := by
  have hb : top (fun i : Fin 0 => z ⟨k + i.val, by omega⟩) = ⊥ := rfl
  rw [quot_prefix (p := k) (b := 0) (r := n - k) (by omega) z v hz (top fun i : Fin k => z ⟨i.val, by omega⟩) (by rw [hb, max_bot_right])]
  simp only [Finset.univ_eq_empty, Finset.sum_empty, add_zero]
  rfl

/-- A query's attention in lane `c` of two heads side by side. -/
def att (q : Fin 128 → EReal) (K : Fin n → Fin 128 → EReal) (C : Fin 2 → Fin n → EReal) (V : Fin n → EReal) (last : ℕ) (c : Fin 128) : EReal :=
  quot (logit (fun d => q ⟨c.val / 64 * 64 + d.val, by omega⟩) (fun j d => K j ⟨c.val / 64 * 64 + d.val, by omega⟩)
    (C ⟨c.val / 64, by omega⟩) last) V

/-- The two heads of a block, the first from the lower lanes and the second from the upper, as one attention over all keys. -/
theorem att_of_parts {k : ℕ} (hk : k ≤ n) (q : Fin 128 → EReal) (K : Fin n → Fin 128 → EReal) (C : Fin 2 → Fin n → EReal) (V : Fin n → EReal)
    (last : ℕ) (hl : last < k) (c : Fin 128) {K' : Fin k → Fin 128 → EReal} {C₀ C₁ V' : Fin k → EReal}
    (hK : ∀ j d, K' j d = K ⟨j.val, by omega⟩ d) (h₀ : ∀ j, C₀ j = C 0 ⟨j.val, by omega⟩) (h₁ : ∀ j, C₁ j = C 1 ⟨j.val, by omega⟩)
    (hV : ∀ j, V' j = V ⟨j.val, by omega⟩) :
    (if c.val < 64 then quot (logit (fun d : Fin 64 => q ⟨d.val, by omega⟩) (fun j d => K' j ⟨d.val, by omega⟩) C₀ last) V'
      else quot (logit (fun d : Fin 64 => q ⟨64 + d.val, by omega⟩) (fun j d => K' j ⟨64 + d.val, by omega⟩) C₁ last) V')
      = att q K C V last c := by
  have h (q : Fin 64 → EReal) (K : Fin n → Fin 64 → EReal) (C : Fin n → EReal) :
      quot (logit q (fun (j : Fin k) d => K ⟨j.val, by omega⟩ d) (fun j => C ⟨j.val, by omega⟩) last) (fun j => V ⟨j.val, by omega⟩)
        = quot (logit q K C last) V :=
    quot_take hk (logit q K C last) V fun j hj => if_neg (by omega)
  obtain rfl := funext fun j => funext fun d => hK j d
  obtain rfl := funext h₀
  obtain rfl := funext h₁
  obtain rfl := funext hV
  unfold att
  by_cases hc : c.val < 64
  · rw [if_pos hc, ← h]
    have e0 : c.val / 64 = 0 := by omega
    simp only [e0, Nat.zero_mul, Nat.zero_add]
    rfl
  · rw [if_neg hc, ← h]
    have e1 : c.val / 64 = 1 := by omega
    simp only [e1, Nat.one_mul]
    rfl

end Cert.Fox

end
-- ==== Proof.FoxBlock.lean ====
module

public import proofs.«01_k».proof.Defs
public import proofs.«01_k».proof.Proof.Gen.FoxIdeal.Frame
public import proofs.«01_k».proof.Proof.FoxCore
public import Idealize.ShloMosaic.Lib.Pipeline.ValueKit

/-! One block of queries of the forgetting attention, over any number of keys: the loads of the first keys and of their gates, the
    masks over lanes, the attention that the two heads' weights make, and the kernel's operations read at an index. -/

@[expose] public section

set_option maxRecDepth 16384

noncomputable section

open Idealize.ShloMosaic Idealize.ShloMosaic.TcCoe Idealize.SL.Sem

namespace Cert.FoxIdeal.Layer

open Cert.FoxIdeal Cert.FoxIdeal.Gen Cert.Softmax Cert.Reals Cert.Fox

/-- A load of the first `n` keys. -/
theorem keys_at {n : ℕ} (hn : n ≤ 2048) (X : FVec Ideal S1x2048x128 .bf16)
    (inb : ∀ a, (![0, 0, 0] : Fin 3 → ℕ) a + (![1, n, 128] : Fin 3 → ℕ) a ≤ S1x2048x128.size a) (j : Fin n) (d : Fin 128) :
    View.ld (Val := Elt Ideal) (e' := .bf16) X (Rect.unit (s := S1x2048x128) ![0, 0, 0] ![1, n, 128] inb) (ix3 0 j d) = X (ix3 0 ⟨j.val, by omega⟩ d) :=
  View.ld_unit_apply_of (Val := Elt Ideal) (e := .bf16) X _ _ inb _ _ fun a => by
    match a with
    | 0 => rfl
    | 1 => exact (Nat.zero_add _).symm
    | 2 => exact (Nat.zero_add _).symm

/-- A load of one head's gates of the first `n` keys. -/
theorem gates_at {n : ℕ} (hn : n ≤ 2048) (X : FVec Ideal S1x1x2x2048 .f32) (s : Fin 2)
    (inb : ∀ a, (![0, 0, s.val, 0] : Fin 4 → ℕ) a + (![1, 1, 1, n] : Fin 4 → ℕ) a ≤ S1x1x2x2048.size a) (j : Fin n) :
    View.ld (Val := Elt Ideal) (e' := .f32) X (Rect.unit (s := S1x1x2x2048) ![0, 0, s.val, 0] ![1, 1, 1, n] inb) (ix4 0 0 0 j)
      = X (ix4 0 0 s ⟨j.val, by omega⟩) :=
  View.ld_unit_apply_of (Val := Elt Ideal) (e := .f32) X _ _ inb _ _ fun a => by
    match a with
    | 0 => rfl
    | 1 => rfl
    | 2 => exact (Nat.add_zero _).symm
    | 3 => exact (Nat.zero_add _).symm

theorem inb_keys {n : ℕ} (hn : n ≤ 2048) (a : Fin 3) : (![0, 0, 0] : Fin 3 → ℕ) a + (![1, n, 128] : Fin 3 → ℕ) a ≤ S1x2048x128.size a := by
  match a with
  | 0 => exact Nat.le_refl 1
  | 1 => exact (Nat.zero_add n).trans_le hn
  | 2 => exact Nat.le_refl 128

theorem inb_gates {n : ℕ} (hn : n ≤ 2048) (s : Fin 2) (a : Fin 4) :
    (![0, 0, s.val, 0] : Fin 4 → ℕ) a + (![1, 1, 1, n] : Fin 4 → ℕ) a ≤ S1x1x2x2048.size a := by
  match a with
  | 0 => exact Nat.le_refl 1
  | 1 => exact Nat.le_refl 1
  | 2 => exact s.isLt
  | 3 => exact (Nat.zero_add n).trans_le hn

/-! ## The masks over lanes -/

theorem own_slt (u v : EReal) : Scalar.select (IntOp.cmpi .slt 64#32 64#32) u v = v := rfl

theorem own_sge (u v : EReal) : Scalar.select (IntOp.cmpi .sge 0#32 64#32) u v = v := rfl

theorem lane_slt (c : Fin 128) (u v : EReal) :
    Scalar.select (IntOp.cmpi .slt (BitVec.ofNat 32 c.val) 64#32) u v = if c.val < 64 then u else v := sel_slt (by omega) (by norm_num) u v

theorem lane_sge (c : Fin 128) (u v : EReal) :
    Scalar.select (IntOp.cmpi .sge (BitVec.ofNat 32 c.val) 64#32) u v = if c.val < 64 then v else u := by
  refine (sel_sge (by omega) (by norm_num) u v).trans ?_
  by_cases h : c.val < 64
  · rw [if_pos h, if_neg (not_le.mpr h)]
  · rw [if_neg h, if_pos (not_lt.mp h)]

/-- A value chosen by the head of a lane, the choice within already made. -/
theorem ite_ite (c : Fin 128) (u v w : EReal) : (if c.val < 64 then u else if c.val < 64 then w else v) = if c.val < 64 then u else v := by
  by_cases h : c.val < 64
  · rw [if_pos h, if_pos h]
  · rw [if_neg h, if_neg h, if_neg h]

/-! ## The block -/

/-- The values under the weights over the sum of the weights. -/
def over {n : ℕ} (W V : Fin n → EReal) : EReal := Ideal.div (∑ x, W x * V x) (∑ x, W x)

/-- The lower head's weights over the keys `K` with the gates `C`, up to the position `last`. -/
def lowW {n : ℕ} (q : FVec Ideal S1x256x128 .bf16) (r : Fin 256) (K : Fin n → Fin 128 → EReal) (C : Fin n → EReal) (last : ℕ) : Fin n → EReal :=
  weight (logit (fun d : Fin 64 => q (ix3 0 r ⟨d.val, by omega⟩)) (fun j d => K j ⟨d.val, by omega⟩) C last)

/-- The upper head's weights. -/
def highW {n : ℕ} (q : FVec Ideal S1x256x128 .bf16) (r : Fin 256) (K : Fin n → Fin 128 → EReal) (C : Fin n → EReal) (last : ℕ) : Fin n → EReal :=
  weight (logit (fun d : Fin 64 => q (ix3 0 r ⟨64 + d.val, by omega⟩)) (fun j d => K j ⟨64 + d.val, by omega⟩) C last)

/-- A block whose lower lanes hold the lower head's values under its weights, and the upper lanes the upper head's, holds the
    attention of its queries: the keys behind the first `n` are all masked. -/
theorem block_at {n : ℕ} (hn : n ≤ 2048) (x0 : FVec Ideal S1x256x128 .bf16) (x1 x2 : FVec Ideal S1x2048x128 .bf16) (x3 : FVec Ideal S1x1x2x2048 .f32)
    (r : Fin 256) (l : Fin 128) (last : ℕ) (hl : last < n) {K : Fin n → Fin 128 → EReal} {V C₀ C₁ Wl Wh : Fin n → EReal} {res U : EReal}
    (hres : res = if l.val < 64 then U else over Wh V) (hU : l.val < 64 → U = over Wl V)
    (hWl : ∀ x, Wl x = lowW x0 r K C₀ last x) (hWh : ∀ x, Wh x = highW x0 r K C₁ last x)
    (hK : ∀ j d, K j d = x1 (ix3 0 ⟨j.val, by omega⟩ d)) (h₀ : ∀ j, C₀ j = x3 (ix4 0 0 0 ⟨j.val, by omega⟩))
    (h₁ : ∀ j, C₁ j = x3 (ix4 0 0 1 ⟨j.val, by omega⟩)) (hV : ∀ j, V j = x2 (ix3 0 ⟨j.val, by omega⟩ l)) :
    res = att (fun d => x0 (ix3 0 r d)) (fun j d => x1 (ix3 0 j d)) (fun s j => x3 (ix4 0 0 s j)) (fun j => x2 (ix3 0 j l)) last l := by
  refine hres.trans (Eq.trans ?_ (att_of_parts (k := n) hn (fun d => x0 (ix3 0 r d)) (fun j d => x1 (ix3 0 j d))
    (fun s j => x3 (ix4 0 0 s j)) (fun j => x2 (ix3 0 j l)) last hl l hK h₀ h₁ hV))
  obtain rfl : Wl = _ := funext hWl
  obtain rfl : Wh = _ := funext hWh
  by_cases h : l.val < 64
  · rw [if_pos h, if_pos h, hU h]
    rfl
  · rw [if_neg h, if_neg h]
    rfl

/-! ## The kernel's operations, over any number of keys -/

abbrev R2 (a b : ℕ) : Shape := ⟨2, ![a, b]⟩
abbrev R3 (a b c : ℕ) : Shape := ⟨3, ![a, b, c]⟩
abbrev R4 (a b c d : ℕ) : Shape := ⟨4, ![a, b, c, d]⟩

/-- The shapes of a block of queries behind `p` keys fit together. -/
structure Fits (n p : ℕ) : Prop where
  keys : (R3 1 n 128).ShapeCasts (R2 n 128)
  gates : (R4 1 1 1 n).ShapeCasts (R2 1 n)
  rows : (R2 1 n).Broadcasts (R2 256 n)
  own : (R2 256 n).Slices ![0, p] S256x256
  past : (R2 256 n).Slices ![0, 0] (R2 256 p)
  red : (R2 256 p).Reduces [1] S256
  cols : S256x1.Broadcasts (R2 256 p)
  cat : Shape.Concatenates [R2 256 p, S256x256] (R2 256 n) 1
  lanes : (R2 n 128).Iotas .tc 32 [1]
  dotK : DotDims.WF S256x128 (R2 n 128) (R2 256 n) [1] [1] [0] [0] [] []
  dotV : DotDims.WF (R2 256 n) (R2 n 128) S256x128 [1] [0] [0] [1] [] []

variable {n p : ℕ}

/-- The product of a block of queries with the keys, along the lanes of both. -/
def dotK (w : Fits n p) : DotDims S256x128 (R2 n 128) (R2 256 n) where
  lhsContracting := [1]
  rhsContracting := [1]
  lhsNonContracting := [0]
  rhsNonContracting := [0]
  lhsBatch := []
  rhsBatch := []
  wf := w.dotK

/-- The product of the weights with the values. -/
def dotV (w : Fits n p) : DotDims (R2 256 n) (R2 n 128) S256x128 where
  lhsContracting := [1]
  rhsContracting := [0]
  lhsNonContracting := [0]
  rhsNonContracting := [1]
  lhsBatch := []
  rhsBatch := []
  wf := w.dotV

theorem cast_idx (h : (R3 1 n 128).ShapeCasts (R2 n 128)) (j : Fin n) (d : Fin 128) : Shape.reshapeEquiv h (ix2 j d) = ix3 0 j d :=
  Shape.reshapeEquiv_eq_of_vals _ _ _ _ _ (rowMajor_val3 _ _ _ rfl rfl) (rowMajor_val2 _ _ rfl) (by simp)

theorem cast_keys (w : Fits n p) (K : FVec Ideal (R3 1 n 128) .bf16) (j : Fin n) (d : Fin 128) :
    shapeCast (R2 n 128) K w.keys (ix2 j d) = K (ix3 0 j d) := congrArg K (cast_idx w.keys j d)

theorem cast_gates (w : Fits n p) (C : FVec Ideal (R4 1 1 1 n) .f32) (j : Fin n) :
    shapeCast (R2 1 n) C w.gates (ix2 0 j) = C (ix4 0 0 0 j) :=
  congrArg C (Shape.reshapeEquiv_eq_of_vals _ _ _ _ _ (rowMajor_val4 _ _ _ _ rfl rfl rfl) (rowMajor_val2 _ _ rfl) (by simp))

theorem row_at (w : Fits n p) (X : FVec Ideal (R2 1 n) .f32) (r : Fin 256) (j : Fin n) : broadcastTo (R2 256 n) X w.rows (ix2 r j) = X (ix2 0 j) := by
  pointwise
  refine congrArg X (funext fun a => ?_)
  match a with
  | 0 => rfl
  | 1 =>
    by_cases h : n = 1
    · subst h
      exact Subsingleton.elim (α := Fin 1) _ _
    · exact dif_neg h

theorem zero_bits_add (x : EReal) : Ideal.ofBits .f32 0x00000000#32 + x = x := by
  pointwise

/-- The scores of the lanes that `m` keeps, less the gates. -/
def scores (w : Fits n p) (m : IVec S256x128 1) (q : FVec Ideal S1x256x128 .bf16) (K : FVec Ideal (R3 1 n 128) .bf16)
    (C : FVec Ideal (R4 1 1 1 n) .f32) : FVec Ideal (R2 256 n) .f32 :=
  subf (matmul (dotK w) none (select m (mulf (shapeCast S256x128 q shapeCasts_S1x256x128_S256x128) (broadcast S256x128 (Scalar.ofBits .bf16 0x3E00#16)))
      (broadcast S256x128 (Scalar.ofBits .bf16 0x0000#16))) (shapeCast (R2 n 128) K w.keys) (constant (R2 256 n) .f32 0x00000000#32))
    (broadcastTo (R2 256 n) (shapeCast (R2 1 n) C w.gates) w.rows)

theorem scores_at (w : Fits n p) (m : IVec S256x128 1) (q : FVec Ideal S1x256x128 .bf16) (K : FVec Ideal (R3 1 n 128) .bf16)
    (C : FVec Ideal (R4 1 1 1 n) .f32) (r : Fin 256) (j : Fin n) :
    (scores w m q K C (ix2 r j) : EReal)
      = (∑ d : Fin 128, Scalar.select (m (ix2 r d)) ((q (ix3 0 r d) : EReal) * ((1 / 8 : ℝ) : EReal) * K (ix3 0 j d)) 0) - C (ix4 0 0 0 j) := by
  have e (q' : FVec Ideal S256x128 .bf16) (K' : FVec Ideal (R2 n 128) .bf16) :
      (matmul (dotK w) none q' K' (constant (R2 256 n) .f32 0x00000000#32) (ix2 r j) : EReal) = ∑ d : Fin 128, (q' (ix2 r d) : EReal) * K' (ix2 j d) :=
    (Ideal.matmul_apply₁_of (dotK w) (a := 1) rfl (K := 128) rfl q' K' _ _ (fun d => ix2 r d) (fun d => ix2 j d) (fun d => by idx_ext) (fun d => by idx_ext)).trans
      (zero_bits_add _)
  unfold scores
  refine (congrArg₂ (· - ·) (e _ _) ((row_at w _ r j).trans (cast_gates w C j))).trans ?_
  pointwise [cast_idx, bits_eighth16]

/-- The weights of the two parts of a row of logits, both under the greatest logit of the row. -/
def joined (w : Fits n p) (a : FVec Ideal (R2 256 p) .f32) (b : FVec Ideal S256x256 .f32) : FVec Ideal (R2 256 n) .bf16 :=
  have v54 : FVec Ideal S256x1 .f32 := maximumf (shapeCast S256x1 (multiReduction .maximumf [1] S256 a 0xFF800000#32 w.red (.inl rfl) rfl) shapeCasts_S256_S256x1)
    (shapeCast S256x1 (multiReduction .maximumf [1] S256 b 0xFF800000#32 reduces_S256x256_S256 (.inl rfl) rfl) shapeCasts_S256_S256x1)
  concatenate (R2 256 n) 1 [⟨R2 256 p, truncf .bf16 (exp (subf a (broadcastTo (R2 256 p) v54 w.cols))) bitsLt_bf16_f32⟩,
    ⟨S256x256, truncf .bf16 (exp (subf b (broadcastTo S256x256 v54 broadcasts_S256x1_S256x256))) bitsLt_bf16_f32⟩] w.cat

theorem joined_at (w : Fits n p) (hn : n = p + 256) (a : FVec Ideal (R2 256 p) .f32) (b : FVec Ideal S256x256 .f32) (r : Fin 256) (j : Fin n) :
    (joined w a b (ix2 r j) : EReal) = if h : j.val < p
      then Ideal.exp (a (ix2 r ⟨j.val, h⟩) - max (top fun i : Fin p => a (ix2 r i)) (top fun i : Fin 256 => b (ix2 r i)))
      else Ideal.exp (b (ix2 r ⟨j.val - p, by omega⟩) - max (top fun i : Fin p => a (ix2 r i)) (top fun i : Fin 256 => b (ix2 r i))) := by
  pointwise [joined, bits_bot]
  by_cases h : j.val < p
  · have e (hb : ∀ b, (ix2 r j b).val < (R2 256 p).size b) : (Shape.Idx.norm fun b => ⟨(ix2 r j b).val, hb b⟩ : (R2 256 p).Idx) = ix2 r ⟨j.val, h⟩ := by
      idx_ext
    rw [dif_pos h, dif_pos h, e]
    rfl
  · rw [dif_neg h, dif_neg h]
    rfl

/-- The values in the lanes that `m` keeps, and in the others ones at lane `o` only. -/
def counted (w : Fits n p) (m : IVec (R2 n 128) 1) (o : BitVec 32) (V : FVec Ideal (R3 1 n 128) .bf16) : FVec Ideal (R2 n 128) .bf16 :=
  select m (shapeCast (R2 n 128) V w.keys) (truncf .bf16 (select (cmpi .eq (iota .tc (R2 n 128) 32 [1] w.lanes) (broadcast (R2 n 128) o))
    (broadcast (R2 n 128) (Scalar.ofBits (F := Ideal) .f32 0x3F800000#32)) (broadcast (R2 n 128) (Scalar.ofBits (F := Ideal) .f32 0x00000000#32))) bitsLt_bf16_f32)

def summed (w : Fits n p) (W : FVec Ideal (R2 256 n) .bf16) (V : FVec Ideal (R2 n 128) .bf16) : FVec Ideal S256x128 .f32 :=
  matmul (dotV w) none W V (constant S256x128 .f32 0x00000000#32)

theorem summed_at (w : Fits n p) (W : FVec Ideal (R2 256 n) .bf16) (V : FVec Ideal (R2 n 128) .bf16) (r : Fin 256) (c : Fin 128) :
    (summed w W V (ix2 r c) : EReal) = ∑ x : Fin n, (W (ix2 r x) : EReal) * V (ix2 x c) := by
  exact (Ideal.matmul_apply₁_of (dotV w) (a := 1) rfl (K := n) rfl W V _ _ (fun x => ix2 r x) (fun x => ix2 x c) (fun x => by idx_ext) (fun x => by idx_ext)).trans
    (zero_bits_add _)

/-- The weights of the lanes that `m` keeps: the keys behind `p` under the causal mask. -/
def weights (w : Fits n p) (m : IVec S256x128 1) (q : FVec Ideal S1x256x128 .bf16) (K : FVec Ideal (R3 1 n 128) .bf16)
    (C : FVec Ideal (R4 1 1 1 n) .f32) : FVec Ideal (R2 256 n) .bf16 :=
  joined w (extractStridedSlice (R2 256 p) ![0, 0] (scores w m q K C) w.past)
    (select k0_pay1 (extractStridedSlice S256x256 ![0, p] (scores w m q K C) w.own) (broadcast S256x256 (Scalar.ofBits (F := Ideal) .f32 0xFF800000#32)))

theorem past_at (w : Fits n p) (hn : n = p + 256) (s : FVec Ideal (R2 256 n) .f32) (r : Fin 256) (j : Fin p) :
    extractStridedSlice (R2 256 p) ![0, 0] s w.past (ix2 r j) = s (ix2 r ⟨j.val, by omega⟩) := by
  pointwise
  refine congrArg s (funext fun a => ?_)
  match a with
  | 0 => exact Fin.ext (Nat.zero_add _)
  | 1 => exact Fin.ext (Nat.zero_add _)

theorem masked_at (w : Fits n p) (hn : n = p + 256) (s : FVec Ideal (R2 256 n) .f32) (r j : Fin 256) :
    (select k0_pay1 (extractStridedSlice S256x256 ![0, p] s w.own) (broadcast S256x256 (Scalar.ofBits (F := Ideal) .f32 0xFF800000#32)) (ix2 r j) : EReal)
      = if j.val ≤ r.val then (s (ix2 r ⟨p + j.val, by omega⟩) : EReal) else ⊥ := by
  have e : extractStridedSlice S256x256 ![0, p] s w.own (ix2 r j) = s (ix2 r ⟨p + j.val, by omega⟩) := by
    pointwise
    refine congrArg s (funext fun a => ?_)
    match a with
    | 0 => exact Fin.ext (Nat.zero_add _)
    | 1 => rfl
  refine Eq.trans ?_ (sel_causal r j _ _)
  rw [← e, ← bits_bot]
  have t : k0_pay1 (ix2 r j) = IntOp.cmpi .sge (BitVec.ofNat 32 r.val) (BitVec.ofNat 32 j.val) := by
    pointwise [k0_pay1]
  exact congrArg (fun b => Scalar.select b _ _) t

/-- The weights, once the sum over the kept lanes is a sum over one head. -/
theorem weights_at (w : Fits n p) (hn : n = p + 256) (m : IVec S256x128 1) (q : FVec Ideal S1x256x128 .bf16) (K : FVec Ideal (R3 1 n 128) .bf16)
    (C : FVec Ideal (R4 1 1 1 n) .f32) (r : Fin 256) (e : Fin 64 → Fin 128)
    (hm : ∀ f : Fin 128 → EReal, ∑ d : Fin 128, Scalar.select (m (ix2 r d)) (f d) 0 = ∑ d : Fin 64, f (e d)) (j : Fin n) :
    (weights w m q K C (ix2 r j) : EReal)
      = weight (logit (fun d => q (ix3 0 r (e d))) (fun j d => K (ix3 0 j (e d))) (fun j => C (ix4 0 0 0 j)) (p + r.val)) j := by
  refine Eq.trans ?_ (weight_logit hn _ _ _ _ _ _ rfl).symm
  refine (joined_at w hn _ _ r j).trans ?_
  simp only [past_at w hn, masked_at w hn, scores_at, hm]

/-- The product over its lane `o`. -/
def shared {o : ℕ} (h : S256x128.Slices ![0, o] S256x1) (P : FVec Ideal S256x128 .f32) : FVec Ideal S256x128 .f32 :=
  divf P (broadcastTo S256x128 (extractStridedSlice S256x1 ![0, o] P h) broadcasts_S256x1_S256x128)

theorem lower_at (w : Fits n p) (W : FVec Ideal (R2 256 n) .bf16) (V : FVec Ideal (R3 1 n 128) .bf16) (r : Fin 256) (c : Fin 128) (hc : c.val < 64) :
    (shared slices_S256x128_o0_64_S256x1
        (summed w W (counted w (cmpi .slt (iota .tc (R2 n 128) 32 [1] w.lanes) (broadcast (R2 n 128) 64#32)) 64#32 V)) (ix2 r c) : EReal)
      = over (fun x => W (ix2 r x)) (fun x => V (ix3 0 x c)) := by
  pointwise [shared, summed_at, counted, cast_idx]
  simp only [lane_slt, if_pos hc, own_slt, mul_one]
  rfl

theorem upper_at (w : Fits n p) (W : FVec Ideal (R2 256 n) .bf16) (V : FVec Ideal (R3 1 n 128) .bf16) (r : Fin 256) (c : Fin 128) (hc : ¬ c.val < 64) :
    (shared slices_S256x128_o0_0_S256x1
        (summed w W (counted w (cmpi .sge (iota .tc (R2 n 128) 32 [1] w.lanes) (broadcast (R2 n 128) 64#32)) 0#32 V)) (ix2 r c) : EReal)
      = over (fun x => W (ix2 r x)) (fun x => V (ix3 0 x c)) := by
  pointwise [shared, summed_at, counted, cast_idx]
  simp only [lane_sge, if_neg hc, own_sge, mul_one]
  rfl

/-- The lanes of the lower head, and those of the upper. -/
def lowLanes : IVec S256x128 1 := cmpi .slt (iota .tc S256x128 32 [1] iota_S256x128_d1_w32) (broadcast S256x128 64#32)
def highLanes : IVec S256x128 1 := cmpi .sge (iota .tc S256x128 32 [1] iota_S256x128_d1_w32) (broadcast S256x128 64#32)

theorem low_at (w : Fits n p) (hn : n = p + 256) (q : FVec Ideal S1x256x128 .bf16) (K : FVec Ideal (R3 1 n 128) .bf16) (C : FVec Ideal (R4 1 1 1 n) .f32)
    (r : Fin 256) (j : Fin n) :
    (weights w lowLanes q K C (ix2 r j) : EReal) = lowW q r (fun j d => K (ix3 0 j d)) (fun j => C (ix4 0 0 0 j)) (p + r.val) j :=
  weights_at w hn lowLanes q K C r (fun d => ⟨d.val, by omega⟩) (fun f => by
    pointwise [lowLanes]
    exact sum_low f) j

theorem high_at (w : Fits n p) (hn : n = p + 256) (q : FVec Ideal S1x256x128 .bf16) (K : FVec Ideal (R3 1 n 128) .bf16) (C : FVec Ideal (R4 1 1 1 n) .f32)
    (r : Fin 256) (j : Fin n) :
    (weights w highLanes q K C (ix2 r j) : EReal) = highW q r (fun j d => K (ix3 0 j d)) (fun j => C (ix4 0 0 0 j)) (p + r.val) j :=
  weights_at w hn highLanes q K C r (fun d => ⟨64 + d.val, by omega⟩) (fun f => by
    pointwise [highLanes]
    exact sum_high f) j

/-- What the kernel writes for a block of queries behind `p` keys. -/
def result (w : Fits n p) (q : FVec Ideal S1x256x128 .bf16) (K V : FVec Ideal (R3 1 n 128) .bf16) (C₀ C₁ : FVec Ideal (R4 1 1 1 n) .f32) :
    FVec Ideal S1x256x128 .bf16 :=
  have lanes : IVec (R2 n 128) 32 := iota .tc (R2 n 128) 32 [1] w.lanes
  shapeCast S1x256x128 (truncf .bf16 (select lowLanes
      (shared slices_S256x128_o0_64_S256x1 (summed w (weights w lowLanes q K C₀) (counted w (cmpi .slt lanes (broadcast (R2 n 128) 64#32)) 64#32 V)))
      (shared slices_S256x128_o0_0_S256x1 (summed w (weights w highLanes q K C₁) (counted w (cmpi .sge lanes (broadcast (R2 n 128) 64#32)) 0#32 V))))
    bitsLt_bf16_f32) shapeCasts_S256x128_S1x256x128

/-- It is the attention of its queries over all keys. -/
theorem result_at (w : Fits n p) (hn : n = p + 256) (hle : n ≤ 2048) (x0 : FVec Ideal S1x256x128 .bf16) (x1 x2 : FVec Ideal S1x2048x128 .bf16)
    (x3 : FVec Ideal S1x1x2x2048 .f32) (r : Fin 256) (l : Fin 128) (K V : FVec Ideal (R3 1 n 128) .bf16) (C₀ C₁ : FVec Ideal (R4 1 1 1 n) .f32)
    (hK : ∀ j d, K (ix3 0 j d) = x1 (ix3 0 ⟨j.val, by omega⟩ d)) (h₀ : ∀ j, C₀ (ix4 0 0 0 j) = x3 (ix4 0 0 0 ⟨j.val, by omega⟩))
    (h₁ : ∀ j, C₁ (ix4 0 0 0 j) = x3 (ix4 0 0 1 ⟨j.val, by omega⟩)) (hV : ∀ j, V (ix3 0 j l) = x2 (ix3 0 ⟨j.val, by omega⟩ l)) :
    (result w x0 K V C₀ C₁ (ix3 0 r l) : EReal)
      = att (fun d => x0 (ix3 0 r d)) (fun j d => x1 (ix3 0 j d)) (fun s j => x3 (ix4 0 0 s j)) (fun j => x2 (ix3 0 j l)) (p + r.val) l := by
  refine block_at hle x0 x1 x2 x3 r l (p + r.val) (by omega) (K := fun j d => K (ix3 0 j d)) (V := fun j => V (ix3 0 j l))
    ?_ (fun h => lower_at w (weights w lowLanes x0 K C₀) V r l h) (low_at w hn x0 K C₀ r) (high_at w hn x0 K C₁ r) hK h₀ h₁ hV
  unfold result
  pointwise [lowLanes]
  rw [lane_slt]
  by_cases h : l.val < 64
  · rw [if_pos h, if_pos h]
  · rw [if_neg h, if_neg h]
    exact upper_at w _ V r l h

/-- `result_at` at the first `n` keys, their gates and their values, as the kernel loads them. -/
theorem loaded_at (x0 : FVec Ideal S1x256x128 .bf16) (x1 x2 : FVec Ideal S1x2048x128 .bf16) (x3 : FVec Ideal S1x1x2x2048 .f32)
    (r : Fin 256) (l : Fin 128) (hle : n ≤ 2048) (hn : n = p + 256) (w : Fits n p := by constructor <;> decide) :
    (result w x0 (View.ld (Val := Elt Ideal) (e' := .bf16) x1 (Rect.unit (s := S1x2048x128) ![0, 0, 0] ![1, n, 128] (inb_keys hle)))
      (View.ld (Val := Elt Ideal) (e' := .bf16) x2 (Rect.unit (s := S1x2048x128) ![0, 0, 0] ![1, n, 128] (inb_keys hle)))
      (View.ld (Val := Elt Ideal) (e' := .f32) x3 (Rect.unit (s := S1x1x2x2048) ![0, 0, (0 : Fin 2).val, 0] ![1, 1, 1, n] (inb_gates hle 0)))
      (View.ld (Val := Elt Ideal) (e' := .f32) x3 (Rect.unit (s := S1x1x2x2048) ![0, 0, (1 : Fin 2).val, 0] ![1, 1, 1, n] (inb_gates hle 1))) (ix3 0 r l) : EReal)
      = att (fun d => x0 (ix3 0 r d)) (fun j d => x1 (ix3 0 j d)) (fun s j => x3 (ix4 0 0 s j)) (fun j => x2 (ix3 0 j l)) (p + r.val) l :=
  result_at w hn hle x0 x1 x2 x3 r l _ _ _ _ (keys_at hle x1 (inb_keys hle)) (gates_at hle x3 0 (inb_gates hle 0)) (gates_at hle x3 1 (inb_gates hle 1))
    fun j => keys_at hle x2 (inb_keys hle) j l

end Cert.FoxIdeal.Layer

end
-- ==== Proof.FoxA.lean ====
module

public import proofs.«01_k».proof.Defs
public import proofs.«01_k».proof.Proof.FoxBlock

/-! The first block of queries of the forgetting attention: its own block of keys only. -/

@[expose] public section

set_option maxRecDepth 16384

noncomputable section

open Idealize.ShloMosaic Idealize.ShloMosaic.TcCoe Idealize.SL.Sem

namespace Cert.FoxIdeal.Layer

open Cert.FoxIdeal Cert.FoxIdeal.Gen Cert.Softmax Cert.Reals Cert.Fox

/-- The lower head's product of weights and values, ones standing in lane 64. -/
theorem lowA_at (q K V : FVec Ideal S1x256x128 .bf16) (C : FVec Ideal S1x1x1x256 .f32) (r : Fin 256) (c : Fin 128) :
    (k0_pay12 (F := Ideal) (iota .tc S256x128 32 [1] iota_S256x128_d1_w32) k0_pay1 q K V C (ix2 r c) : EReal)
      = ∑ x : Fin 256, weight (logit (fun d : Fin 64 => q (ix3 0 r ⟨d.val, by omega⟩)) (fun (j : Fin 256) d => K (ix3 0 j ⟨d.val, by omega⟩)) (fun j => C (ix4 0 0 0 j)) r.val) x
          * Scalar.select (IntOp.cmpi .slt (BitVec.ofNat 32 c.val) 64#32) (V (ix3 0 x c)) (Scalar.select (IntOp.cmpi .eq (BitVec.ofNat 32 c.val) 64#32) 1 0) := by
  pointwise [k0_pay12, k0_pay1, k0_pay9, k0_pay10, k0_pay11]
  simp only [sum_low, sel_causal, bits_bot, bits_eighth16]
  rfl

/-- The block's result from the lower head's product. -/
theorem bothA_at (q K V : FVec Ideal S1x256x128 .bf16) (C : FVec Ideal S1x1x1x256 .f32) (U : FVec Ideal S256x128 .f32) (r : Fin 256) (c : Fin 128) :
    (k0_pay13 (F := Ideal) (iota .tc S256x128 32 [1] iota_S256x128_d1_w32) k0_pay1 (k0_pay9 q) (k0_pay10 K) (k0_pay11 V)
        (iota .tc S256x128 32 [1] iota_S256x128_d1_w32) U C (ix3 0 r c) : EReal)
      = if c.val < 64 then Ideal.div (U (ix2 r c)) (U (ix2 r 64))
        else quot (logit (fun d : Fin 64 => q (ix3 0 r ⟨64 + d.val, by omega⟩)) (fun (j : Fin 256) d => K (ix3 0 j ⟨64 + d.val, by omega⟩)) (fun j => C (ix4 0 0 0 j)) r.val)
          (fun j => V (ix3 0 j c)) := by
  have e' {α : Type} (u v : α) : Scalar.select (IntOp.cmpi .eq 0#32 0#32) u v = u := rfl
  pointwise [k0_pay13, k0_pay1, k0_pay9, k0_pay10, k0_pay11]
  simp only [sum_high, sel_causal, bits_bot, bits_eighth16]
  simp only [lane_slt, lane_sge, own_sge, e', mul_one]
  by_cases hc : c.val < 64
  · rw [if_pos hc, if_pos hc]
  · simp only [if_neg hc]
    rfl

/-- What the block holds at a row and a lane. -/
theorem outA_at (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x2x2048 .f32) (harg6 : arg6.IsWhole) (arg7 : Memref sig .tc .vmem S1x256x128 .bf16) (harg7 : arg7.IsWhole)
    (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : FVec Ideal S1x256x128 .bf16) (x1 x2 : FVec Ideal S1x2048x128 .bf16) (x3 : FVec Ideal S1x1x2x2048 .f32) (r : Fin 256) (l : Fin 128) :
    (out0_A_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (r.val) l := by
  have hn : 256 ≤ 2048 := by norm_num
  frame_out
  refine (bothA_at _ _ _ _ _ r l).trans (Eq.trans ?_ (att_of_parts (k := 256) (by omega) (fun d => x0 (ix3 0 r d)) (fun j d => x1 (ix3 0 j d))
    (fun s j => x3 (ix4 0 0 s j)) (fun j => x2 (ix3 0 j l)) (r.val) (by omega) l
    (keys_at hn x1 (inb_keys hn)) (gates_at hn x3 0 (inb_gates hn 0)) (gates_at hn x3 1 (inb_gates hn 1)) fun j => keys_at hn x2 (inb_keys hn) j l))
  by_cases hl : l.val < 64
  · rw [if_pos hl, if_pos hl, lowA_at, lowA_at]
    have e' (u v : EReal) : Scalar.select (IntOp.cmpi .eq (BitVec.ofNat 32 (64 : Fin 128).val) 64#32) u v = u := rfl
    simp only [lane_slt, if_pos hl, if_neg (show ¬(64 : Fin 128).val < 64 by decide), e', mul_one]
    rfl
  · rw [if_neg hl, if_neg hl]
    rfl

end Cert.FoxIdeal.Layer
-- ==== Proof.FoxCases.lean ====
module

public import proofs.«01_k».proof.Defs
public import proofs.«01_k».proof.Proof.FoxBlock

/-! The blocks of queries that have keys before their own: each is the general block at its number of keys, from 512 to 2048. -/

@[expose] public section

set_option maxRecDepth 16384

noncomputable section

open Idealize.ShloMosaic Idealize.ShloMosaic.TcCoe Idealize.SL.Sem

namespace Cert.FoxIdeal.Layer

open Cert.FoxIdeal Cert.FoxIdeal.Gen Cert.Softmax Cert.Reals Cert.Fox

section
variable (c : Dev nD) (i : grid0.Coords) (arg3 : Memref sig .tc .vmem S1x256x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x2x2048 .f32) (harg6 : arg6.IsWhole) (arg7 : Memref sig .tc .vmem S1x256x128 .bf16) (harg7 : arg7.IsWhole)
  (x0 : FVec Ideal S1x256x128 .bf16) (x1 x2 : FVec Ideal S1x2048x128 .bf16) (x3 : FVec Ideal S1x1x2x2048 .f32) (r : Fin 256) (l : Fin 128)

theorem outB_at (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) :
    (out0_B_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (256 + r.val) l := by
  frame_out
  exact loaded_at x0 x1 x2 x3 r l (n := 512) (by norm_num) rfl

theorem outC_at (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) :
    (out0_C_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (512 + r.val) l := by
  frame_out
  exact loaded_at x0 x1 x2 x3 r l (n := 768) (by norm_num) rfl

theorem outD_at (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) :
    (out0_D_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (768 + r.val) l := by
  frame_out
  exact loaded_at x0 x1 x2 x3 r l (n := 1024) (by norm_num) rfl

theorem outE_at (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) :
    (out0_E_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (1024 + r.val) l := by
  frame_out
  exact loaded_at x0 x1 x2 x3 r l (n := 1280) (by norm_num) rfl

theorem outF_at (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) :
    (out0_F_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (1280 + r.val) l := by
  frame_out
  exact loaded_at x0 x1 x2 x3 r l (n := 1536) (by norm_num) rfl

theorem outG_at (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) :
    (out0_G_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (1536 + r.val) l := by
  frame_out
  exact loaded_at x0 x1 x2 x3 r l (n := 1792) (by norm_num) rfl

theorem outH_at (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) :
    (out0_H_4 (F := Ideal) c i arg3 harg3 arg4 harg4 arg5 harg5 arg6 harg6 arg7 harg7 hc0 hc1 hc2 hc3 hc4 hc5 hc6 hc7 x0 x1 x2 x3 (ix3 0 r l) : EReal)
      = att (fun d => x0 (ix3 0 r d)) (fun j d => x1 (ix3 0 j d)) (fun s j => x3 (ix4 0 0 s j)) (fun j => x2 (ix3 0 j l)) (1792 + r.val) l := by
  frame_out
  exact result_at (by constructor <;> decide) rfl le_rfl x0 x1 x2 x3 r l x1 x2 _ _ (fun j d => rfl)
    (gates_at le_rfl x3 0 (inb_gates le_rfl 0)) (gates_at le_rfl x3 1 (inb_gates le_rfl 1)) fun j => rfl

end

end Cert.FoxIdeal.Layer

end
-- ==== Proof.FoxRef.lean ====
module

public import proofs.«01_k».proof.Defs
public import proofs.«01_k».proof.Proof.FoxCore
public import proofs.«01_k».proof.Proof.Gen.FoxRefIdeal.Run
public import Idealize.ShloMosaic.Lib.Pointwise

/-! The forgetting attention's reference: its result at a sequence, a position and a lane. -/

@[expose] public section

set_option maxRecDepth 16384

noncomputable section

open Idealize.ShloMosaic Idealize.ShloMosaic.TcCoe Idealize.SL.Sem

namespace Cert.FoxRefIdeal.Layer

open Cert.FoxRefIdeal Cert.FoxRefIdeal.Gen Cert.FoxRefIdeal.Value Cert.Softmax Cert.Reals Cert.Fox

variable (m : (ℓ : Loc nD τ sig) → Buf (Elt Ideal) ℓ) (c : Dev nD)

/-- The queries. -/
abbrev arrQ : FVec Ideal S32768x1024 .bf16 := m (c.tc.loc main_arg0)
/-- The keys. -/
abbrev arrK : FVec Ideal S32768x1024 .bf16 := m (c.tc.loc main_arg1)
/-- The values. -/
abbrev arrV : FVec Ideal S32768x1024 .bf16 := m (c.tc.loc main_arg2)
/-- The cumulative gates, one row a head. -/
abbrev arrC : FVec Ideal S16x128x2048 .f32 := m (c.tc.loc main_arg3)

/-! ## The reference in stages -/

/-- The scaled products of queries and keys, the gates of the query added and those of the key taken away. -/
def scores (q k : FVec Ideal S32768x1024 .bf16) (g : FVec Ideal S16x128x2048 .f32) : FVec Ideal S16x16x2048x2048 .f32 :=
  subf (addf (mulf (Host.dotGeneral dot_S16x2048x16x64_S16x2048x16x64_S16x16x2048x2048_3_3_1_1_02_02 none (shapeCast _ (extf .f32 q bitsLt_bf16_f32) shapeCasts_S32768x1024_S16x2048x16x64) (shapeCast _ (extf .f32 k bitsLt_bf16_f32) shapeCasts_S32768x1024_S16x2048x16x64)) (broadcastInDim S16x16x2048x2048 ![] bcast_S_S16x16x2048x2048 (constant S_ .f32 0x3E000000#32))) (broadcastInDim S16x16x2048x2048 ![0, 1, 2, 3] bcast_S16x16x2048x1_S16x16x2048x2048_0_1_2_3 (broadcastInDim S16x16x2048x1 ![0, 1, 2] bcast_S16x16x2048_S16x16x2048x1_0_1_2 (extractStridedSlice S16x16x2048 ![0, 0, 0] g slices_S16x128x2048_S16x16x2048_0_0_0)))) (broadcastInDim S16x16x2048x2048 ![0, 1, 2, 3] bcast_S16x16x1x2048_S16x16x2048x2048_0_1_2_3 (broadcastInDim S16x16x1x2048 ![0, 1, 3] bcast_S16x16x2048_S16x16x1x2048_0_1_3 (extractStridedSlice S16x16x2048 ![0, 0, 0] g slices_S16x128x2048_S16x16x2048_0_0_0)))

/-- The scores with those of later keys masked. -/
def masked (z : FVec Ideal S16x16x2048x2048 .f32) : FVec Ideal S16x16x2048x2048 .f32 :=
  select (broadcastInDim S16x16x2048x2048 ![0, 1, 2, 3] bcast_S1x1x2048x2048_S16x16x2048x2048_0_1_2_3 (broadcastInDim S1x1x2048x2048 ![2, 3] bcast_S2048x2048_S1x1x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) z (broadcastInDim S16x16x2048x2048 ![] bcast_S_S16x16x2048x2048 (id (constant S_ .f32 0xFF800000#32)))

/-- The largest score of every row. -/
def tops (z : FVec Ideal S16x16x2048x2048 .f32) : FVec Ideal S16x16x2048 .f32 :=
  maximumf (broadcastInDim S16x16x2048 ![] bcast_S_S16x16x2048 (constant S_ .f32 0xFF800000#32)) (Host.reduce FloatOps.maximumf z (constant S_ .f32 0xFF800000#32) reducesTo_S16x16x2048x2048_S16x16x2048_d3 h_S_)

/-- The exponentials of the scores less the largest of their row. -/
def powers (z : FVec Ideal S16x16x2048x2048 .f32) : FVec Ideal S16x16x2048x2048 .f32 :=
  Host.exp (subf z (broadcastInDim S16x16x2048x2048 ![0, 1, 2, 3] bcast_S16x16x2048x1_S16x16x2048x2048_0_1_2_3 (broadcastInDim S16x16x2048x1 ![0, 1, 2] bcast_S16x16x2048_S16x16x2048x1_0_1_2 (tops z))))

/-- Every exponential over the sum of its row. -/
def weights (e : FVec Ideal S16x16x2048x2048 .f32) : FVec Ideal S16x16x2048x2048 .f32 :=
  Host.divf e (broadcastInDim S16x16x2048x2048 ![0, 1, 2, 3] bcast_S16x16x2048x1_S16x16x2048x2048_0_1_2_3 (broadcastInDim S16x16x2048x1 ![0, 1, 2] bcast_S16x16x2048_S16x16x2048x1_0_1_2 (Host.reduceAdd e (constant S_ .f32 0x00000000#32) reducesTo_S16x16x2048x2048_S16x16x2048_d3 h_S_)))

/-- The values under the weights, head by head. -/
def mixed (w : FVec Ideal S16x16x2048x2048 .f32) (v : FVec Ideal S32768x1024 .bf16) : FVec Ideal S16x16x64x2048 .f32 :=
  Host.dotGeneral dot_S16x2048x16x64_S16x16x2048x2048_S16x16x64x2048_1_3_3_2_02_01 none (shapeCast _ (extf .f32 v bitsLt_bf16_f32) shapeCasts_S32768x1024_S16x2048x16x64) w

/-- The heads' results laid side by side at every position. -/
def merged (o : FVec Ideal S16x16x64x2048 .f32) : FVec Ideal S16x2048x1024 .bf16 :=
  truncf .bf16 (shapeCast S16x2048x1024 (transpose S16x2048x16x64 [0, 3, 1, 2] o transposes_S16x16x64x2048_S16x2048x16x64_0_3_1_2) shapeCasts_S16x2048x16x64_S16x2048x1024) bitsLt_bf16_f32

theorem result_eq : res_main_v38 m c
    = merged (mixed (weights (powers (masked (scores (arrQ m c) (arrK m c) (arrC m c))))) (arrV m c)) := by
  unfold res_main_v38
  rfl

theorem scores_at (q k : FVec Ideal S32768x1024 .bf16) (g : FVec Ideal S16x128x2048 .f32) (b a : Fin 16) (t j : Fin 2048) :
    scores q k g (ix4 b a t j) = (∑ d : Fin 64, q (ix2 ⟨b.val * 2048 + t.val, by omega⟩ ⟨a.val * 64 + d.val, by omega⟩)
      * k (ix2 ⟨b.val * 2048 + j.val, by omega⟩ ⟨a.val * 64 + d.val, by omega⟩)) * ((1 / 8 : ℝ) : EReal)
      + g (ix3 b ⟨a.val, by omega⟩ t) - g (ix3 b ⟨a.val, by omega⟩ j) := by
  pointwise [scores]
  rw [bits_eighth]

theorem masked_at (z : FVec Ideal S16x16x2048x2048 .f32) (b a : Fin 16) (t j : Fin 2048) :
    masked z (ix4 b a t j) = if j.val ≤ t.val then z (ix4 b a t j) else ⊥ := by
  rw [← bits_bot, ← sel_sge (show t.val < 2 ^ 31 by omega) (show j.val < 2 ^ 31 by omega)]
  pointwise [masked]
  rfl

theorem tops_at (z : FVec Ideal S16x16x2048x2048 .f32) (b a : Fin 16) (t : Fin 2048) :
    tops z (ix3 b a t) = top (fun j => z (ix4 b a t j)) := by
  have e : Host.reduce FloatOps.maximumf z (constant (F := Ideal) S_ .f32 0xFF800000#32) reducesTo_S16x16x2048x2048_S16x16x2048_d3 h_S_ (ix3 b a t)
      = top (fun j => z (ix4 b a t j)) := by
    pointwise
    rw [bits_bot]
    rfl
  have e' (v : FVec Ideal S16x16x2048 .f32) (i : S16x16x2048.Idx) :
      maximumf (broadcastInDim S16x16x2048 ![] bcast_S_S16x16x2048 (constant S_ .f32 0xFF800000#32)) v i = v i := by
    show max (Ideal.ofBits .f32 0xFF800000#32) (v i) = v i
    rw [bits_bot, max_bot_left]
  exact (e' _ _).trans e

theorem powers_at (z : FVec Ideal S16x16x2048x2048 .f32) (b a : Fin 16) (t j : Fin 2048) :
    powers z (ix4 b a t j) = weight (fun j => z (ix4 b a t j)) j := by
  have e : powers z (ix4 b a t j) = Ideal.exp (z (ix4 b a t j) - tops z (ix3 b a t)) := by
    pointwise [powers]
  rw [e, tops_at]
  rfl

theorem weights_at (e : FVec Ideal S16x16x2048x2048 .f32) (b a : Fin 16) (t j : Fin 2048) :
    weights e (ix4 b a t j) = Ideal.div (e (ix4 b a t j)) (∑ j, e (ix4 b a t j)) := by
  pointwise [weights]

theorem mixed_at (w : FVec Ideal S16x16x2048x2048 .f32) (v : FVec Ideal S32768x1024 .bf16) (b a : Fin 16) (d : Fin 64) (t : Fin 2048) :
    mixed w v (ix4 b a d t) = ∑ j : Fin 2048, w (ix4 b a t j) * v (ix2 ⟨b.val * 2048 + j.val, by omega⟩ ⟨a.val * 64 + d.val, by omega⟩) := by
  pointwise [mixed]
  exact Finset.sum_congr rfl fun _ _ => mul_comm _ _

theorem merged_at (o : FVec Ideal S16x16x64x2048 .f32) (b : Fin 16) (t : Fin 2048) (x : Fin 1024) :
    merged o (ix3 b t x) = o (ix4 b ⟨x.val / 64, by omega⟩ ⟨x.val % 64, by omega⟩ t) := by
  pointwise [merged]

/-- The reference's result at a sequence, a position and a lane. -/
theorem ref_at (b : Fin 16) (t : Fin 2048) (x : Fin 1024) :
    res_main_v38 m c (ix3 b t x) = soft
      (fun j : Fin 2048 => if j.val ≤ t.val then (∑ d : Fin 64, arrQ m c (ix2 ⟨b.val * 2048 + t.val, by omega⟩ ⟨x.val / 64 * 64 + d.val, by omega⟩)
        * arrK m c (ix2 ⟨b.val * 2048 + j.val, by omega⟩ ⟨x.val / 64 * 64 + d.val, by omega⟩)) * ((1 / 8 : ℝ) : EReal)
        + arrC m c (ix3 b ⟨x.val / 64, by omega⟩ t) - arrC m c (ix3 b ⟨x.val / 64, by omega⟩ j) else ⊥)
      (fun j => arrV m c (ix2 ⟨b.val * 2048 + j.val, by omega⟩ x)) := by
  have ex : (⟨x.val / 64 * 64 + x.val % 64, by omega⟩ : Fin 1024) = x := Fin.ext (Nat.div_add_mod' x.val 64)
  rw [result_eq, merged_at, mixed_at]
  simp only [weights_at, powers_at, masked_at, scores_at, ex]
  rfl

end Cert.FoxRefIdeal.Layer

end
-- ==== Proof.FoxValue.lean ====
module

public import proofs.«01_k».proof.Defs
public import proofs.«01_k».proof.Proof.FoxA
public import proofs.«01_k».proof.Proof.FoxCases
public import proofs.«01_k».proof.Proof.FoxRef
public import proofs.«01_k».proof.Proof.Gen.FoxIdeal.Value
public import proofs.«01_k».proof.Proof.Gen.Pre_fox_finite
public import Idealize.ShloMosaic.Lib.Pipeline.ValueKit
public import Idealize.ShloMosaic.Lib.Pipeline.Covers

/-! The forgetting attention: the kernel and the reference compute the same array. -/

@[expose] public section

set_option maxRecDepth 16384

noncomputable section

open Idealize.ShloMosaic Idealize.ShloMosaic.TcCoe Idealize.SL.Sem
open Idealize.ShloMosaic.Pipeline (Dat)

namespace Cert.FoxIdeal.Layer

open Cert.FoxIdeal Cert.FoxIdeal.Gen Cert.Softmax Cert.Reals Cert.Fox

/-- The query's own gate, left out by the kernel, moves all its logits alike; scaling the queries scales the logits, and dividing the
    product at the end divides the weights. -/
theorem att_eq_soft {n : ℕ} (q : Fin 128 → EReal) (K : Fin n → Fin 128 → EReal) (C : Fin 2 → Fin n → EReal) (V : Fin n → EReal) (last : Fin n)
    (l : Fin 128) (hq : ∀ d, IsReal (q d)) (hK : ∀ j d, IsReal (K j d)) (hC : ∀ s j, IsReal (C s j)) :
    att q K C V last.val l = soft (fun j => if j.val ≤ last.val then
        (∑ d : Fin 64, q ⟨l.val / 64 * 64 + d.val, by omega⟩ * K j ⟨l.val / 64 * 64 + d.val, by omega⟩) * ((1 / 8 : ℝ) : EReal)
          + C ⟨l.val / 64, by omega⟩ last - C ⟨l.val / 64, by omega⟩ j else ⊥) V := by
  have hs (j : Fin n) : IsReal (∑ d : Fin 64, q ⟨l.val / 64 * 64 + d.val, by omega⟩ * ((1 / 8 : ℝ) : EReal) * K j ⟨l.val / 64 * 64 + d.val, by omega⟩) :=
    IsReal.sum fun d => ((hq _).mul ⟨_, rfl⟩).mul (hK _ _)
  have hp : Proper (logit (fun d : Fin 64 => q ⟨l.val / 64 * 64 + d.val, by omega⟩) (fun j d => K j ⟨l.val / 64 * 64 + d.val, by omega⟩)
      (C ⟨l.val / 64, by omega⟩) last.val) := by
    constructor
    · intro j
      unfold logit
      split
      · exact ((hs j).sub (hC _ _)).ne_top
      · exact bot_ne_top
    · refine ⟨last, ?_⟩
      unfold logit
      rw [if_pos le_rfl]
      exact ((hs last).sub (hC _ _)).ne_bot
  obtain ⟨a, ha⟩ := hC ⟨l.val / 64, by omega⟩ last
  unfold att
  rw [quot_eq_soft hp, ← soft_add hp a]
  congr 1
  funext j
  unfold logit
  split
  · have e : (∑ d : Fin 64, q ⟨l.val / 64 * 64 + d.val, by omega⟩ * K j ⟨l.val / 64 * 64 + d.val, by omega⟩) * ((1 / 8 : ℝ) : EReal)
        = ∑ d : Fin 64, q ⟨l.val / 64 * 64 + d.val, by omega⟩ * ((1 / 8 : ℝ) : EReal) * K j ⟨l.val / 64 * 64 + d.val, by omega⟩ := by
      rw [sum_mul_coe _ (by norm_num)]
      exact Finset.sum_congr rfl fun d _ => mul_right_comm _ _ _
    rw [e, ha]
    obtain ⟨x, hx⟩ := hs j
    obtain ⟨y, hy⟩ := hC ⟨l.val / 64, by omega⟩ j
    rw [hx, hy, ← EReal.coe_sub, ← EReal.coe_add, ← EReal.coe_add, ← EReal.coe_sub]
    congr 1
    ring
  · rw [EReal.bot_add]

set_option maxHeartbeats 4000000 in
theorem idx : ∀ t : Fin cfg0.N, win0_0.index t = ![t.val / 64, t.val % 8, t.val / 8 % 8] ∧ win0_1.index t = ![t.val / 64, 0, t.val / 8 % 8]
    ∧ win0_2.index t = ![t.val / 64, 0, t.val / 8 % 8] ∧ win0_3.index t = ![t.val / 64, t.val / 8 % 8, 0, 0]
    ∧ win0_4.index t = ![t.val / 64, t.val % 8, t.val / 8 % 8] :=
  (by decide +kernel : ∀ t : Fin grid0.N, _)

theorem t_lt (t : Fin cfg0.N) : t.val < 1024 := t.isLt

variable (m : (ℓ : Loc nD τ sig) → Buf (Elt Ideal) ℓ) (c : Dev nD) (t : Fin cfg0.N)

theorem q_at (r : Fin 256) (d : Fin 128) : iblk m c 0 t (ix3 0 r d) = m ((c : Thread nD τ).loc main_arg0)
    (ix2 ⟨t.val / 64 * 2048 + (t.val % 8 * 256 + r.val), by have := t_lt t; omega⟩ ⟨t.val / 8 % 8 * 128 + d.val, by omega⟩) := by
  blk_ext! [iblk, V, idx t]

theorem k_at (j : Fin 2048) (d : Fin 128) : iblk m c 1 t (ix3 0 j d) = m ((c : Thread nD τ).loc main_arg1)
    (ix2 ⟨t.val / 64 * 2048 + j.val, by have := t_lt t; omega⟩ ⟨t.val / 8 % 8 * 128 + d.val, by omega⟩) := by
  blk_ext! [iblk, V, idx t]

theorem v_at (j : Fin 2048) (d : Fin 128) : iblk m c 2 t (ix3 0 j d) = m ((c : Thread nD τ).loc main_arg2)
    (ix2 ⟨t.val / 64 * 2048 + j.val, by have := t_lt t; omega⟩ ⟨t.val / 8 % 8 * 128 + d.val, by omega⟩) := by
  blk_ext! [iblk, V, idx t]

theorem g_at (s : Fin 2) (j : Fin 2048) : iblk m c 3 t (ix4 0 0 s j) = m ((c : Thread nD τ).loc main_arg3)
    (ix3 ⟨t.val / 64, by have := t_lt t; omega⟩ ⟨t.val / 8 % 8 * 2 + s.val, by omega⟩ j) := by
  blk_ext! [iblk, V, idx t]

theorem emb_at (r : Fin 256) (l : Fin 128) : (win0_4.blk t).view.emb (ix3 0 r l)
    = ix3 ⟨t.val / 64, by have := t_lt t; omega⟩ ⟨t.val % 8 * 256 + r.val, by omega⟩ ⟨t.val / 8 % 8 * 128 + l.val, by omega⟩ := by
  blk_ext [idx t]

/-- What the kernel leaves of a block: the attention of each of its queries. -/
theorem outs_at (r : Fin 256) (l : Fin 128) : outsAt0 m c t.val t.isLt (ix3 0 r l)
    = att (fun d => iblk m c 0 t (ix3 0 r d)) (fun j d => iblk m c 1 t (ix3 0 j d)) (fun s j => iblk m c 3 t (ix4 0 0 s j))
        (fun j => iblk m c 2 t (ix3 0 j l)) (t.val % 8 * 256 + r.val) l := by
  have h : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases h with h | h | h | h | h | h | h | h
  · rw [show t.val % 8 * 256 + r.val = r.val by omega, outsAt0_A m c t (by omega) (by omega) (by omega) (by omega) (by omega) (by omega) (by omega) (by omega)]
    exact outA_at ..
  · rw [show t.val % 8 * 256 + r.val = 256 + r.val by omega, outsAt0_B m c t (by omega) (by omega) (by omega) (by omega) (by omega) (by omega) (by omega) (by omega)]
    exact outB_at ..
  · rw [show t.val % 8 * 256 + r.val = 512 + r.val by omega, outsAt0_C m c t (by omega) (by omega) (by omega) (by omega) (by omega) (by omega) (by omega) (by omega)]
    exact outC_at ..
  · rw [show t.val % 8 * 256 + r.val = 768 + r.val by omega, outsAt0_D m c t (by omega) (by omega) (by omega) (by omega) (by omega) (by omega) (by omega) (by omega)]
    exact outD_at ..
  · rw [show t.val % 8 * 256 + r.val = 1024 + r.val by omega, outsAt0_E m c t (by omega) (by omega) (by omega) (by omega) (by omega) (by omega) (by omega) (by omega)]
    exact outE_at ..
  · rw [show t.val % 8 * 256 + r.val = 1280 + r.val by omega, outsAt0_F m c t (by omega) (by omega) (by omega) (by omega) (by omega) (by omega) (by omega) (by omega)]
    exact outF_at ..
  · rw [show t.val % 8 * 256 + r.val = 1536 + r.val by omega, outsAt0_G m c t (by omega) (by omega) (by omega) (by omega) (by omega) (by omega) (by omega) (by omega)]
    exact outG_at ..
  · rw [show t.val % 8 * 256 + r.val = 1792 + r.val by omega, outsAt0_H m c t (by omega) (by omega) (by omega) (by omega) (by omega) (by omega) (by omega) (by omega)]
    exact outH_at ..

/-- A block of the kernel's result is the block of the reference's. -/
theorem point (m' : (ℓ : Loc Cert.FoxRefIdeal.nD Cert.FoxRefIdeal.τ Cert.FoxRefIdeal.sig) → Buf (Elt Ideal) ℓ)
    (e0 : Cert.FoxRefIdeal.Layer.arrQ m' c = m ((c : Thread nD τ).loc main_arg0)) (e1 : Cert.FoxRefIdeal.Layer.arrK m' c = m ((c : Thread nD τ).loc main_arg1))
    (e2 : Cert.FoxRefIdeal.Layer.arrV m' c = m ((c : Thread nD τ).loc main_arg2)) (e3 : Cert.FoxRefIdeal.Layer.arrC m' c = m ((c : Thread nD τ).loc main_arg3))
    (h0 : ∀ i, IsReal (Cert.FoxRefIdeal.Layer.arrQ m' c i)) (h1 : ∀ i, IsReal (Cert.FoxRefIdeal.Layer.arrK m' c i))
    (h3 : ∀ i, IsReal (Cert.FoxRefIdeal.Layer.arrC m' c i)) (r : Fin 256) (l : Fin 128) :
    outsAt0 m c t.val t.isLt (ix3 0 r l) = Cert.FoxRefIdeal.Value.res_main_v38 m' c
      (ix3 ⟨t.val / 64, by have := t_lt t; omega⟩ ⟨t.val % 8 * 256 + r.val, by omega⟩ ⟨t.val / 8 % 8 * 128 + l.val, by omega⟩) := by
  have ed : (t.val / 8 % 8 * 128 + l.val) / 64 = t.val / 8 % 8 * 2 + l.val / 64 := by omega
  have em (d : ℕ) : (t.val / 8 % 8 * 2 + l.val / 64) * 64 + d = t.val / 8 % 8 * 128 + (l.val / 64 * 64 + d) := by omega
  refine (outs_at m c t r l).trans (Eq.trans ?_ (Cert.FoxRefIdeal.Layer.ref_at m' c _ _ _).symm)
  simp only [q_at, k_at, v_at, g_at, ← e0, ← e1, ← e2, ← e3, ed, em]
  exact att_eq_soft (n := 2048) _ _ _ _ ⟨t.val % 8 * 256 + r.val, by omega⟩ l (fun d => h0 _) (fun j d => h1 _) (fun s j => h3 _)

theorem covers : (win0_4).Covers := by decide +kernel

/-- The kernel and the reference compute the same array. -/
theorem algebraic : Cert.algebraic_FoxIdeal_FoxRefIdeal_pre_fox_finite := by
  intro m ρ m' ρ' hpre hag
  refine ⟨_, Cert.FoxIdeal.Value.run_blocks m ρ, (θ_run _ _ _).mono (fun r h c => ?_) (Cert.FoxRefIdeal.Value.run (F := Ideal) m' ρ')⟩
  obtain ⟨e0, e1, e2, e3⟩ := hag c
  obtain ⟨p0, p1, p3⟩ := hpre c
  simp only [Cert.Pre_fox_finite.fn] at p0 p1 p3
  have h0 := isReal_of_all (fun a => a.elim0) p0
  have h1 := isReal_of_all (fun a => a.elim0) p1
  have h3 := isReal_of_all (fun a => a.elim0) p3
  obtain ⟨k0, k⟩ := h c
  refine ⟨k0.trans ((dats m 0 c).arrAt_eq_of_covers 4 _ covers fun t _ y => ?_).symm, k⟩
  blk_simp
  rw [after0_4]
  obtain ⟨r, l, rfl⟩ : ∃ (r : Fin 256) (l : Fin 128), y = ix3 0 r l := ⟨y 1, y 2, by blk_ext⟩
  rw [emb_at]
  exact point m c t m' e0 e1 e2 e3 (fun i => (congrArg IsReal (congrFun e0 i)).mpr (h0 i))
    (fun i => (congrArg IsReal (congrFun e1 i)).mpr (h1 i)) (fun i => (congrArg IsReal (congrFun e3 i)).mpr (h3 i)) r l

end Cert.FoxIdeal.Layer

end
-- ==== Proof.XattnValue.lean ====
module

public import proofs.«01_k».proof.Defs
public import proofs.«01_k».proof.Proof.Gen.XattnIdeal.Value
public import proofs.«01_k».proof.Proof.Gen.XattnRefIdeal.Run
public import proofs.«01_k».proof.Proof.Reals
public import Idealize.ShloMosaic.Lib.Pipeline.ValueKit
public import Idealize.ShloMosaic.Lib.Pointwise

/-! The cross-attention sub-layer. The kernel takes one head after another, divides each head's product by the sum of its weights at
    the end, and scales the queries instead of the logits; the reference divides the weights and scales the logits. -/

@[expose] public section

set_option maxRecDepth 16384

noncomputable section

open Idealize.ShloMosaic Idealize.ShloMosaic.TcCoe Idealize.SL.Sem
open Idealize.ShloMosaic.Pipeline (Dat)

namespace Cert.XattnIdeal.Layer

open Cert.XattnIdeal Cert.XattnIdeal.Gen Cert.Softmax Cert.Reals

/-! ## One head over one row -/

/-- A row of the hidden state, normalized, at a column. -/
def normed (h g : Fin 1024 → EReal) (x : Fin 1024) : EReal :=
  h x * Ideal.rsqrt (Ideal.div (∑ i, h i * h i) (Ideal.ofBits .f32 0x44800000#32) + Ideal.ofBits .f32 0x358637BD#32) * g x

/-- The attention's result in lane `x`: the weights of the head the lane belongs to, from the row's scaled queries and the head's 256
    lanes of the keys, over the lane's values. -/
def attn (q : Fin 1024 → EReal) (K V : Fin 256 → Fin 1024 → EReal) (x : Fin 1024) : EReal :=
  quot (fun j => ∑ d : Fin 256, q ⟨x.val / 256 * 256 + d.val, by omega⟩ * K j ⟨x.val / 256 * 256 + d.val, by omega⟩) (fun j => V j x)

/-- `attn` in lane `x`, lane `c` of the head that starts at `o`, from the head's lanes of the queries, the keys and the values. -/
theorem attn_head (q : Fin 1024 → EReal) (K V : Fin 256 → Fin 1024 → EReal) (o : ℕ) (ho : o + 256 ≤ 1024) (hd : o % 256 = 0) (c : Fin 256)
    (x : Fin 1024) (hx : x.val = o + c.val) {q' : Fin 256 → EReal} {K' : Fin 256 → Fin 256 → EReal} {V' : Fin 256 → EReal}
    (hq : ∀ d : Fin 256, q' d = q ⟨o + d.val, by omega⟩) (hK : ∀ j d : Fin 256, K' j d = K j ⟨o + d.val, by omega⟩)
    (hV : ∀ j : Fin 256, V' j = V j x) : quot (fun j => ∑ d : Fin 256, q' d * K' j d) V' = attn q K V x := by
  have e : x.val / 256 * 256 = o := by omega
  simp only [attn, e, hq, hK, funext hV]

/-! ## What a block of the kernel computes -/

theorem pay2_at (h : FVec Ideal S512x1024 .f32) (g : FVec Ideal S1x1024 .f32) (w : FVec Ideal S1024x1024 .bf16) (r : Fin 512) (k : Fin 1024) :
    (k0_pay2 (F := Ideal) h g w (ix2 r k) : EReal) = (∑ x, normed (fun i => h (ix2 r i)) (fun i => g (ix2 0 i)) x * w (ix2 x k)) * ((1 / 16 : ℝ) : EReal) := by
  pointwise [k0_pay2]
  rw [bits_sixteenth]
  rfl

theorem pay6_at (h : FVec Ideal S512x1024 .f32) (g : FVec Ideal S1x1024 .f32) (w : FVec Ideal S1024x1024 .bf16)
    (K V : FVec Ideal S1x256x256 .bf16) (r : Fin 512) (c : Fin 256) :
    (k0_pay6 (F := Ideal) (k0_pay4 h g w K V) (k0_pay5 h g w K) (ix2 r c) : EReal)
      = quot (fun x => ∑ d : Fin 256, k0_pay2 (F := Ideal) h g w (ix2 r ⟨d.val, by omega⟩) * K (ix3 0 x d)) (fun x => V (ix3 0 x c)) := by
  pointwise [k0_pay6, k0_pay5, k0_pay4, k0_pay3]
  rw [bits_bot]
  rfl

theorem pay7_at (Q : FVec Ideal S512x1024 .bf16) (K V : FVec Ideal S1x256x256 .bf16) (r : Fin 512) (c : Fin 256) :
    k0_pay7 (F := Ideal) Q K V (ix2 r c)
      = quot (fun x => ∑ d : Fin 256, Q (ix2 r ⟨256 + d.val, by omega⟩) * K (ix3 0 x d)) (fun x => V (ix3 0 x c)) := by
  pointwise [k0_pay7]
  rw [bits_bot]
  rfl

theorem pay8_at (Q : FVec Ideal S512x1024 .bf16) (K V : FVec Ideal S1x256x256 .bf16) (r : Fin 512) (c : Fin 256) :
    k0_pay8 (F := Ideal) Q K V (ix2 r c)
      = quot (fun x => ∑ d : Fin 256, Q (ix2 r ⟨512 + d.val, by omega⟩) * K (ix3 0 x d)) (fun x => V (ix3 0 x c)) := by
  pointwise [k0_pay8]
  rw [bits_bot]
  rfl

theorem pay1_at (h : FVec Ideal S512x1024 .f32) (a b e Q : FVec Ideal S512x256 .bf16) (K V : FVec Ideal S1x256x256 .bf16)
    (W : FVec Ideal S1024x1024 .bf16) (r : Fin 512) (k : Fin 1024) (A : Fin 1024 → EReal)
    (ha : ∀ c : Fin 256, a (ix2 r c) = A ⟨c.val, by omega⟩) (hb : ∀ c : Fin 256, b (ix2 r c) = A ⟨256 + c.val, by omega⟩)
    (he : ∀ c : Fin 256, e (ix2 r c) = A ⟨512 + c.val, by omega⟩)
    (hl : ∀ c : Fin 256, quot (fun x => ∑ d : Fin 256, Q (ix2 r d) * K (ix3 0 x d)) (fun x => V (ix3 0 x c)) = A ⟨768 + c.val, by omega⟩) :
    k0_pay1 h a b e Q K V W (ix2 r k) = h (ix2 r k) + ∑ x, A x * W (ix2 x k) := by
  pointwise [k0_pay1]
  rw [bits_bot]
  refine congrArg (h (ix2 r k) + ·) (Finset.sum_congr rfl fun x _ => congrArg (· * W (ix2 x k)) ?_)
  by_cases h1 : x.val < 256
  · rw [dif_pos h1]
    exact ha ⟨x.val, h1⟩
  rw [dif_neg h1]
  by_cases h2 : x.val - 256 < 256
  · rw [dif_pos h2]
    exact (hb ⟨x.val - 256, h2⟩).trans (congrArg A (Fin.ext (show 256 + (x.val - 256) = x.val by omega)))
  rw [dif_neg h2]
  by_cases h3 : x.val - 256 - 256 < 256
  · rw [dif_pos h3]
    exact (he ⟨x.val - 256 - 256, h3⟩).trans (congrArg A (Fin.ext (show 512 + (x.val - 256 - 256) = x.val by omega)))
  rw [dif_neg h3]
  exact (hl ⟨x.val - 256 - 256 - 256, by omega⟩).trans (congrArg A (Fin.ext (show 768 + (x.val - 256 - 256 - 256) = x.val by omega)))

/-- A load of one head's lanes of the keys or the values. -/
theorem ld_at (X : FVec Ideal S1x256x1024 .bf16) (o : ℕ) (inb : ∀ a, (![0, 0, o] : Fin 3 → ℕ) a + S1x256x256.size a ≤ S1x256x1024.size a)
    (ho : o + 256 ≤ 1024) (j d : Fin 256) :
    View.ld (Val := Elt Ideal) (e' := .bf16) X (Rect.unit (s := S1x256x1024) ![0, 0, o] S1x256x256.size inb) (ix3 0 j d) = X (ix3 0 j ⟨o + d.val, by omega⟩) :=
  View.ld_unit_apply_of (Val := Elt Ideal) (e := .bf16) X _ _ inb _ _ fun a => by
    match a with
    | 0 => rfl
    | 1 => exact (Nat.zero_add _).symm
    | 2 => rfl

/-- A block of the kernel's result at a row and a column. -/
theorem out_at (x0 : FVec Ideal S512x1024 .f32) (x1 : FVec Ideal S1x1024 .f32) (x2 : FVec Ideal S1024x1024 .bf16)
    (x3 x4 : FVec Ideal S1x256x1024 .bf16) (x5 : FVec Ideal S1024x1024 .bf16) (r : Fin 512) (k : Fin 1024) :
    (out0_6 (F := Ideal) x0 x1 x2 x3 x4 x5 (ix2 r k) : EReal) = x0 (ix2 r k) + ∑ x, attn
      (fun y => (∑ i, normed (fun i => x0 (ix2 r i)) (fun i => x1 (ix2 0 i)) i * x2 (ix2 i y)) * ((1 / 16 : ℝ) : EReal))
      (fun j y => x3 (ix3 0 j y)) (fun j y => x4 (ix3 0 j y)) x * x5 (ix2 x k) := by
  have eq : k0_pay10 (F := Ideal) x0 x1 x2 x3 x4 x5 = k0_pay2 x0 x1 x2 := by
    unfold k0_pay10
    frame_out
  frame_out
  refine pay1_at _ _ _ _ _ _ _ _ r k _ (fun c => ?_) (fun c => ?_) (fun c => ?_) (fun c => ?_)
  · rw [pay6_at]
    exact attn_head _ _ _ 0 (by omega) rfl c _ (Nat.zero_add _).symm (fun d => (pay2_at ..).trans (by simp only [Nat.zero_add]))
      (fun j d => ld_at x3 0 _ (by omega) j d) (fun j => (ld_at x4 0 _ (by omega) j c).trans (by simp only [Nat.zero_add]))
  · rw [pay7_at, eq]
    exact attn_head _ _ _ 256 (by omega) rfl c _ rfl (fun d => pay2_at ..)
      (fun j d => ld_at x3 256 _ (by omega) j d) (fun j => ld_at x4 256 _ (by omega) j c)
  · rw [pay8_at, eq]
    exact attn_head _ _ _ 512 (by omega) rfl c _ rfl (fun d => pay2_at ..)
      (fun j d => ld_at x3 512 _ (by omega) j d) (fun j => ld_at x4 512 _ (by omega) j c)
  · have e9 (d : Fin 256) : (k0_pay9 (F := Ideal) (k0_pay2 x0 x1 x2) (ix2 r d) : EReal) = k0_pay2 (F := Ideal) x0 x1 x2 (ix2 r ⟨768 + d.val, by omega⟩) := by
      pointwise [k0_pay9]
    rw [eq]
    exact attn_head _ _ _ 768 (by omega) rfl c _ rfl (fun d => (e9 d).trans (pay2_at ..))
      (fun j d => ld_at x3 768 _ (by omega) j d) (fun j => ld_at x4 768 _ (by omega) j c)

end Cert.XattnIdeal.Layer
-- ==== Proof.XattnRef.lean ====
module

public import proofs.«01_k».proof.Defs
public import proofs.«01_k».proof.Proof.XattnValue
public import proofs.«01_k».proof.Proof.Gen.XattnRefIdeal.Run
public import proofs.«01_k».proof.Proof.Gen.Pre_xattn_finite
public import proofs.«01_k».proof.Proof.Reals
public import Idealize.ShloMosaic.Lib.Pipeline.ValueKit
public import Idealize.ShloMosaic.Lib.Pointwise

/-! The cross-attention sub-layer: the reference's result at a row and a column, and that the kernel and the reference compute the
    same array. -/

@[expose] public section

set_option maxRecDepth 16384

noncomputable section

open Idealize.ShloMosaic Idealize.ShloMosaic.TcCoe Idealize.SL.Sem
open Idealize.ShloMosaic.Pipeline (Dat)

namespace Cert.XattnRefIdeal.Layer

open Cert.XattnRefIdeal Cert.XattnRefIdeal.Gen Cert.XattnRefIdeal.Value Cert.Softmax Cert.Reals
open Cert.XattnIdeal.Layer (normed attn)

variable (m : (ℓ : Loc nD τ sig) → Buf (Elt Ideal) ℓ) (c : Dev nD)

/-- The hidden state. -/
abbrev arrH : FVec Ideal S32768x1024 .f32 := m (c.tc.loc main_arg0)
/-- The norm's gain. -/
abbrev arrG : FVec Ideal S1024 .f32 := m (c.tc.loc main_arg1)
/-- The queries' weight. -/
abbrev arrQ : FVec Ideal S1024x1024 .f32 := m (c.tc.loc main_arg2)
/-- The memory's keys. -/
abbrev arrK : FVec Ideal S16x256x1024 .bf16 := m (c.tc.loc main_arg3)
/-- The memory's values. -/
abbrev arrV : FVec Ideal S16x256x1024 .bf16 := m (c.tc.loc main_arg4)
/-- The output's weight. -/
abbrev arrO : FVec Ideal S1024x1024 .f32 := m (c.tc.loc main_arg5)

/-- The query of row `r` in lane `y`. -/
def query (r : Fin 32768) (y : Fin 1024) : EReal :=
  ∑ i, normed (fun i => arrH m c (ix2 r i)) (fun i => arrG m c (ix1 i)) i * arrQ m c (ix2 i y)

/-! ## The reference in stages -/

/-- The queries of every row. -/
def queries (h : FVec Ideal S32768x1024 .f32) (g : FVec Ideal S1024 .f32) (w : FVec Ideal S1024x1024 .f32) : FVec Ideal S32768x1024 .f32 :=
  Host.dotGeneral dot_S32768x1024_S1024x1024_S32768x1024_1_0_0_1_n_n none (mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

/-- The scaled logits of every head. -/
def logits (q : FVec Ideal S32768x1024 .f32) (k : FVec Ideal S16x256x1024 .bf16) : FVec Ideal S16x4x2048x256 .f32 :=
  mulf (Host.dotGeneral dot_S16x2048x4x256_S16x256x4x256_S16x4x2048x256_3_3_1_1_02_02 none (shapeCast _ q shapeCasts_S32768x1024_S16x2048x4x256) (shapeCast _ (extf .f32 k bitsLt_bf16_f32) shapeCasts_S16x256x1024_S16x256x4x256)) (broadcastInDim S16x4x2048x256 ![] bcast_S_S16x4x2048x256 (constant S_ .f32 0x3D800000#32))

/-- The largest logit of every row. -/
def tops (z : FVec Ideal S16x4x2048x256 .f32) : FVec Ideal S16x4x2048 .f32 :=
  maximumf (broadcastInDim S16x4x2048 ![] bcast_S_S16x4x2048 (constant S_ .f32 0xFF800000#32)) (Host.reduce FloatOps.maximumf z (constant S_ .f32 0xFF800000#32) reducesTo_S16x4x2048x256_S16x4x2048_d3 h_S_)

/-- The exponentials of the logits less the largest of their row. -/
def powers (z : FVec Ideal S16x4x2048x256 .f32) : FVec Ideal S16x4x2048x256 .f32 :=
  Host.exp (subf z (broadcastInDim S16x4x2048x256 ![0, 1, 2, 3] bcast_S16x4x2048x1_S16x4x2048x256_0_1_2_3 (broadcastInDim S16x4x2048x1 ![0, 1, 2] bcast_S16x4x2048_S16x4x2048x1_0_1_2 (tops z))))

/-- Every exponential over the sum of its row. -/
def weights (e : FVec Ideal S16x4x2048x256 .f32) : FVec Ideal S16x4x2048x256 .f32 :=
  Host.divf e (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd e (constant S_ .f32 0x00000000#32) reducesTo_S16x4x2048x256_S16x4x2048_d3 h_S_)))

/-- The values under the weights, head by head. -/
def mixed (w : FVec Ideal S16x4x2048x256 .f32) (v : FVec Ideal S16x256x1024 .bf16) : FVec Ideal S16x4x256x2048 .f32 :=
  Host.dotGeneral dot_S16x256x4x256_S16x4x2048x256_S16x4x256x2048_1_3_3_2_02_01 none (shapeCast _ (extf .f32 v bitsLt_bf16_f32) shapeCasts_S16x256x1024_S16x256x4x256) w

/-- The heads' results laid side by side in every row. -/
def merged (o : FVec Ideal S16x4x256x2048 .f32) : FVec Ideal S32768x1024 .f32 :=
  shapeCast _ (transpose S16x2048x4x256 [0, 3, 1, 2] o transposes_S16x4x256x2048_S16x2048x4x256_0_3_1_2) shapeCasts_S16x2048x4x256_S32768x1024

theorem result_eq : res_main_v37 m c = addf (arrH m c) (Host.dotGeneral (φ₁ := .f32) (φ₂ := .f32) dot_S32768x1024_S1024x1024_S32768x1024_1_0_0_1_n_n none
    (merged (mixed (weights (powers (logits (queries (arrH m c) (arrG m c) (arrQ m c)) (arrK m c)))) (arrV m c))) (arrO m c)) := by
  unfold res_main_v37
  rfl

theorem queries_at (h : FVec Ideal S32768x1024 .f32) (g : FVec Ideal S1024 .f32) (w : FVec Ideal S1024x1024 .f32) (r : Fin 32768) (y : Fin 1024) :
    queries h g w (ix2 r y) = ∑ i, normed (fun i => h (ix2 r i)) (fun i => g (ix1 i)) i * w (ix2 i y) := by
  pointwise [queries]
  rfl

theorem logits_at (q : FVec Ideal S32768x1024 .f32) (k : FVec Ideal S16x256x1024 .bf16) (b : Fin 16) (a : Fin 4) (t : Fin 2048) (j : Fin 256) :
    logits q k (ix4 b a t j) = (∑ d : Fin 256, q (ix2 ⟨b.val * 2048 + t.val, by omega⟩ ⟨a.val * 256 + d.val, by omega⟩)
      * k (ix3 b j ⟨a.val * 256 + d.val, by omega⟩)) * ((1 / 16 : ℝ) : EReal) := by
  pointwise [logits]
  rw [bits_sixteenth]

theorem tops_at (z : FVec Ideal S16x4x2048x256 .f32) (b : Fin 16) (a : Fin 4) (t : Fin 2048) :
    tops z (ix3 b a t) = top (fun j => z (ix4 b a t j)) := by
  have e : Host.reduce FloatOps.maximumf z (constant (F := Ideal) S_ .f32 0xFF800000#32) reducesTo_S16x4x2048x256_S16x4x2048_d3 h_S_ (ix3 b a t)
      = top (fun j => z (ix4 b a t j)) := by
    pointwise
    rw [bits_bot]
    rfl
  have e' (v : FVec Ideal S16x4x2048 .f32) (i : S16x4x2048.Idx) :
      maximumf (broadcastInDim S16x4x2048 ![] bcast_S_S16x4x2048 (constant S_ .f32 0xFF800000#32)) v i = v i := by
    show max (Ideal.ofBits .f32 0xFF800000#32) (v i) = v i
    rw [bits_bot, max_bot_left]
  exact (e' _ _).trans e

theorem powers_at (z : FVec Ideal S16x4x2048x256 .f32) (b : Fin 16) (a : Fin 4) (t : Fin 2048) (j : Fin 256) :
    powers z (ix4 b a t j) = weight (fun j => z (ix4 b a t j)) j := by
  have e : powers z (ix4 b a t j) = Ideal.exp (z (ix4 b a t j) - tops z (ix3 b a t)) := by
    pointwise [powers]
  rw [e, tops_at]
  rfl

theorem weights_at (e : FVec Ideal S16x4x2048x256 .f32) (b : Fin 16) (a : Fin 4) (t : Fin 2048) (j : Fin 256) :
    weights e (ix4 b a t j) = Ideal.div (e (ix4 b a t j)) (∑ j, e (ix4 b a t j)) := by
  pointwise [weights]

theorem mixed_at (w : FVec Ideal S16x4x2048x256 .f32) (v : FVec Ideal S16x256x1024 .bf16) (b : Fin 16) (a : Fin 4) (d : Fin 256) (t : Fin 2048) :
    mixed w v (ix4 b a d t) = ∑ j : Fin 256, w (ix4 b a t j) * v (ix3 b j ⟨a.val * 256 + d.val, by omega⟩) := by
  pointwise [mixed]
  exact Finset.sum_congr rfl fun _ _ => mul_comm _ _

theorem merged_at (o : FVec Ideal S16x4x256x2048 .f32) (r : Fin 32768) (x : Fin 1024) :
    merged o (ix2 r x) = o (ix4 ⟨r.val / 2048, by omega⟩ ⟨x.val / 256, by omega⟩ ⟨x.val % 256, by omega⟩ ⟨r.val % 2048, by omega⟩) := by
  pointwise [merged]

/-- The reference's result at a row and a column. -/
theorem ref_at (r : Fin 32768) (k : Fin 1024) :
    res_main_v37 m c (ix2 r k) = arrH m c (ix2 r k) + ∑ x : Fin 1024, soft
      (fun j : Fin 256 => (∑ d : Fin 256, query m c r ⟨x.val / 256 * 256 + d.val, by omega⟩
        * arrK m c (ix3 ⟨r.val / 2048, by omega⟩ j ⟨x.val / 256 * 256 + d.val, by omega⟩)) * ((1 / 16 : ℝ) : EReal))
      (fun j => arrV m c (ix3 ⟨r.val / 2048, by omega⟩ j x)) * arrO m c (ix2 x k) := by
  have er : (⟨r.val / 2048 * 2048 + r.val % 2048, by omega⟩ : Fin 32768) = r := Fin.ext (Nat.div_add_mod' r.val 2048)
  have ex (x : Fin 1024) : (⟨x.val / 256 * 256 + x.val % 256, by omega⟩ : Fin 1024) = x := Fin.ext (Nat.div_add_mod' x.val 256)
  have e (M : FVec Ideal S32768x1024 .f32) : addf (arrH m c) (Host.dotGeneral (φ₁ := .f32) (φ₂ := .f32) dot_S32768x1024_S1024x1024_S32768x1024_1_0_0_1_n_n none M (arrO m c)) (ix2 r k)
      = arrH m c (ix2 r k) + ∑ x : Fin 1024, M (ix2 r x) * arrO m c (ix2 x k) := by
    pointwise
  rw [result_eq, e]
  simp only [merged_at, mixed_at, weights_at, powers_at, logits_at, queries_at, er, ex]
  rfl

end Cert.XattnRefIdeal.Layer

namespace Cert.XattnIdeal.Layer

open Cert.XattnIdeal Cert.XattnIdeal.Gen Cert.Softmax Cert.Reals

/-- Scaling the queries scales the logits, and dividing the product at the end divides the weights. -/
theorem attn_eq_soft (a : Fin 1024 → EReal) (K V : Fin 256 → Fin 1024 → EReal) (x : Fin 1024) (ha : ∀ y, IsReal (a y)) (hK : ∀ j y, IsReal (K j y)) :
    attn (fun y => a y * ((1 / 16 : ℝ) : EReal)) K V x
      = soft (fun j => (∑ d : Fin 256, a ⟨x.val / 256 * 256 + d.val, by omega⟩ * K j ⟨x.val / 256 * 256 + d.val, by omega⟩) * ((1 / 16 : ℝ) : EReal))
          (fun j => V j x) := by
  unfold attn
  have e (j : Fin 256) : (∑ d : Fin 256, a ⟨x.val / 256 * 256 + d.val, by omega⟩ * ((1 / 16 : ℝ) : EReal) * K j ⟨x.val / 256 * 256 + d.val, by omega⟩)
      = (∑ d : Fin 256, a ⟨x.val / 256 * 256 + d.val, by omega⟩ * K j ⟨x.val / 256 * 256 + d.val, by omega⟩) * ((1 / 16 : ℝ) : EReal) := by
    rw [sum_mul_coe _ (by norm_num)]
    exact Finset.sum_congr rfl fun d _ => mul_right_comm _ _ _
  simp only [e]
  exact quot_eq_soft (proper fun j => (IsReal.sum fun d => (ha _).mul (hK _ _)).mul ⟨_, rfl⟩) _

/-- The queries of a row are real numbers when the row, the gain and the weight are. -/
theorem isReal_query {h g : Fin 1024 → EReal} {w : Fin 1024 → EReal} (hh : ∀ i, IsReal (h i)) (hg : ∀ i, IsReal (g i)) (hw : ∀ i, IsReal (w i)) :
    IsReal (∑ i, normed h g i * w i) :=
  IsReal.sum fun i => (((hh i).mul (isReal_rsqrt hh)).mul (hg i)).mul (hw i)

theorem idx : ∀ t : Fin cfg0.N, win0_0.index t = ![t.val, 0] ∧ win0_1.index t = ![0, 0] ∧ win0_2.index t = ![0, 0]
    ∧ win0_3.index t = ![t.val / 4, 0, 0] ∧ win0_4.index t = ![t.val / 4, 0, 0] ∧ win0_5.index t = ![0, 0] ∧ win0_6.index t = ![t.val, 0] :=
  (by decide +kernel : ∀ t : Fin grid0.N, _)

theorem t_lt (t : Fin cfg0.N) : t.val < 64 := t.isLt

variable (m : (ℓ : Loc nD τ sig) → Buf (Elt Ideal) ℓ) (c : Dev nD) (t : Fin cfg0.N)

theorem h_at (r : Fin 512) (x : Fin 1024) : iblk m c 0 t (ix2 r x)
    = m ((c : Thread nD τ).loc main_arg0) (ix2 ⟨t.val * 512 + r.val, by have := t_lt t; omega⟩ x) := by
  blk_ext! [iblk, V, idx t]

theorem g_at (x : Fin 1024) : iblk m c 1 t (ix2 0 x) = m ((c : Thread nD τ).loc main_arg1) (ix1 x) := by
  blk_ext! [iblk, V, idx t]

theorem q_at (x y : Fin 1024) : iblk m c 2 t (ix2 x y) = m ((c : Thread nD τ).loc main_arg2) (ix2 x y) := by
  blk_ext! [iblk, V, idx t]

theorem k_at (j : Fin 256) (y : Fin 1024) : iblk m c 3 t (ix3 0 j y)
    = m ((c : Thread nD τ).loc main_arg3) (ix3 ⟨t.val / 4, by have := t_lt t; omega⟩ j y) := by
  blk_ext! [iblk, V, idx t]

theorem v_at (j : Fin 256) (y : Fin 1024) : iblk m c 4 t (ix3 0 j y)
    = m ((c : Thread nD τ).loc main_arg4) (ix3 ⟨t.val / 4, by have := t_lt t; omega⟩ j y) := by
  blk_ext! [iblk, V, idx t]

theorem o_at (x y : Fin 1024) : iblk m c 5 t (ix2 x y) = m ((c : Thread nD τ).loc main_arg5) (ix2 x y) := by
  blk_ext! [iblk, V, idx t]

theorem emb_at (r : Fin 512) (k : Fin 1024) : (win0_6.blk t).view.emb (ix2 r k)
    = ix2 ⟨t.val * 512 + r.val, by have := t_lt t; omega⟩ k := by
  blk_ext [idx t]

/-- A block of the kernel's result is the block of the reference's. -/
theorem point (m' : (ℓ : Loc Cert.XattnRefIdeal.nD Cert.XattnRefIdeal.τ Cert.XattnRefIdeal.sig) → Buf (Elt Ideal) ℓ)
    (e0 : Cert.XattnRefIdeal.Layer.arrH m' c = m ((c : Thread nD τ).loc main_arg0)) (e1 : Cert.XattnRefIdeal.Layer.arrG m' c = m ((c : Thread nD τ).loc main_arg1))
    (e2 : Cert.XattnRefIdeal.Layer.arrQ m' c = m ((c : Thread nD τ).loc main_arg2)) (e3 : Cert.XattnRefIdeal.Layer.arrK m' c = m ((c : Thread nD τ).loc main_arg3))
    (e4 : Cert.XattnRefIdeal.Layer.arrV m' c = m ((c : Thread nD τ).loc main_arg4)) (e5 : Cert.XattnRefIdeal.Layer.arrO m' c = m ((c : Thread nD τ).loc main_arg5))
    (h0 : ∀ i, IsReal (Cert.XattnRefIdeal.Layer.arrH m' c i)) (h1 : ∀ i, IsReal (Cert.XattnRefIdeal.Layer.arrG m' c i))
    (h2 : ∀ i, IsReal (Cert.XattnRefIdeal.Layer.arrQ m' c i)) (h3 : ∀ i, IsReal (Cert.XattnRefIdeal.Layer.arrK m' c i)) (r : Fin 512) (k : Fin 1024) :
    out0_6 (iblk m c 0 t) (iblk m c 1 t) (iblk m c 2 t) (iblk m c 3 t) (iblk m c 4 t) (iblk m c 5 t) (ix2 r k)
      = Cert.XattnRefIdeal.Value.res_main_v37 m' c (ix2 ⟨t.val * 512 + r.val, by have := t_lt t; omega⟩ k) := by
  have eb : (t.val * 512 + r.val) / 2048 = t.val / 4 := by omega
  refine (out_at _ _ _ _ _ _ r k).trans (Eq.trans ?_ (Cert.XattnRefIdeal.Layer.ref_at m' c _ k).symm)
  simp only [h_at, g_at, q_at, k_at, v_at, o_at, ← e0, ← e1, ← e2, ← e3, ← e4, ← e5, eb]
  refine congrArg (_ + ·) (Finset.sum_congr rfl fun x _ => congrArg (· * _) ?_)
  exact attn_eq_soft (Cert.XattnRefIdeal.Layer.query m' c _) _ _ x
    (fun y => isReal_query (fun i => h0 _) (fun i => h1 _) (fun i => h2 _)) (fun j y => h3 _)

/-- The kernel and the reference compute the same array. -/
theorem algebraic : Cert.algebraic_XattnIdeal_XattnRefIdeal_pre_xattn_finite := by
  intro m ρ m' ρ' hpre hag
  refine ⟨_, Cert.XattnIdeal.Value.run_blocks m ρ, (θ_run _ _ _).mono (fun r h c => ?_) (Cert.XattnRefIdeal.Value.run (F := Ideal) m' ρ')⟩
  obtain ⟨e0, e1, e2, e3, e4, e5⟩ := hag c
  obtain ⟨p0, p1, p2, p3⟩ := hpre c
  simp only [Cert.Pre_xattn_finite.fn, Cert.Pre_xattn_finite.fn_part1] at p0 p1 p2 p3
  have h0 := isReal_of_all (fun a => a.elim0) p0
  have h1 := isReal_of_all (fun a => a.elim0) p1
  have h2 := isReal_of_all (fun a => a.elim0) p2
  have h3 := isReal_of_all (fun a => a.elim0) p3
  obtain ⟨k0, k⟩ := h c
  refine ⟨k0.trans ((dats m 0 c).arrAt_eq_of_covers 6 _ (by decide +kernel) fun t _ y => ?_).symm, k⟩
  blk_simp
  rw [after0_6]
  obtain ⟨r, k, rfl⟩ : ∃ (r : Fin 512) (k : Fin 1024), y = ix2 r k := ⟨y 0, y 1, by blk_ext⟩
  rw [emb_at]
  exact point m c t m' e0 e1 e2 e3 e4 e5 (fun i => (congrArg IsReal (congrFun e0 i)).mpr (h0 i))
    (fun i => (congrArg IsReal (congrFun e1 i)).mpr (h1 i)) (fun i => (congrArg IsReal (congrFun e2 i)).mpr (h2 i))
    (fun i => (congrArg IsReal (congrFun e3 i)).mpr (h3 i)) r k

end Cert.XattnIdeal.Layer
-- ==== Proof.MlpValue.lean ====
module

public import proofs.«01_k».proof.Defs
public import proofs.«01_k».proof.Proof.Gen.MlpIdeal.Value
public import proofs.«01_k».proof.Proof.Gen.MlpRefIdeal.Run
public import Idealize.ShloMosaic.Lib.Pipeline.ValueKit
public import Idealize.ShloMosaic.Lib.Pointwise

/-! The feed-forward layer: every block of rows the kernel writes, its hidden units taken in four chunks, holds those rows of
    `h + relu(rms_norm(h) @ w_up)^2 @ w_down`. -/

@[expose] public section

set_option maxRecDepth 16384

noncomputable section

open Idealize.ShloMosaic Idealize.ShloMosaic.TcCoe Idealize.SL.Sem
open Idealize.ShloMosaic.Pipeline (Dat)

namespace Cert.MlpIdeal.Layer

open Cert.MlpIdeal Cert.MlpIdeal.Gen

/-- Where each block of the pipeline sits: the rows of a grid point for the hidden state and the result, the whole array for the
    gain and the two weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- A sum over 4096 hidden units is the sum of its four chunks of 1024. -/
theorem sum_chunks (f : Fin 4096 → EReal) :
    ∑ i, f i = (((∑ i : Fin 1024, f ⟨i.val, by omega⟩) + ∑ i : Fin 1024, f ⟨1024 + i.val, by omega⟩)
      + ∑ i : Fin 1024, f ⟨2048 + i.val, by omega⟩) + ∑ i : Fin 1024, f ⟨3072 + i.val, by omega⟩ := by
  rw [show (∑ i, f i) = ∑ i : Fin (1024 + 1024 + 1024 + 1024), f i from rfl, Fin.sum_univ_add, Fin.sum_univ_add, Fin.sum_univ_add]
  rfl

/-- The kernel and the reference compute the same array. -/
theorem algebraic : Cert.algebraic_MlpIdeal_MlpRefIdeal := by
  intro m ρ m' ρ' _ hag
  refine ⟨_, Cert.MlpIdeal.Value.run_blocks m ρ, (θ_run _ _ _).mono (fun r h c => ?_) (Cert.MlpRefIdeal.Value.run (F := Ideal) m' ρ')⟩
  obtain ⟨e0, e1, e2, e3⟩ := hag c
  obtain ⟨k0, k⟩ := h c
  rw [e0, e1, e2, e3] at k0
  refine ⟨k0.trans ((dats m 0 c).arrAt_eq_of_covers 4 _ (by decide +kernel) fun t _ y => ?_).symm, k⟩
  blk_simp
  rw [after0_4]
  frame_out
  pointwise [k0_pay1, k0_pay2, k0_pay3]
  rw [sum_chunks, ← add_assoc, ← add_assoc, ← add_assoc]
  blk_point [iblk, V, idx t]

end Cert.MlpIdeal.Layer
-- ==== Proof.EvenInValue.lean ====
module

public import proofs.«01_k».proof.Defs
public import proofs.«01_k».proof.Proof.Gen.EvenInIdeal.Value
public import proofs.«01_k».proof.Proof.Gen.EvenInRefIdeal.Run
public import Idealize.ShloMosaic.Lib.Pipeline.ValueKit
public import Idealize.ShloMosaic.Lib.Pointwise

/-! The even layers' projections: every block of 512 rows of each of the seven results holds those rows of `rms_norm(h) @ w_in` in the result's 512 columns. -/

@[expose] public section

set_option maxRecDepth 16384

noncomputable section

open Idealize.ShloMosaic Idealize.ShloMosaic.TcCoe Idealize.SL.Sem
open Idealize.ShloMosaic.Pipeline (Dat)

namespace Cert.EvenInIdeal.Layer

open Cert.EvenInIdeal Cert.EvenInIdeal.Gen

/-- Where each block of the pipeline sits: the rows of a grid point for the hidden state and the results, the whole gain and weight. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

set_option maxHeartbeats 1600000 in
/-- The kernel and the reference compute the same arrays. -/
theorem algebraic : Cert.algebraic_EvenInIdeal_EvenInRefIdeal := by
  intro m ρ m' ρ' _ hag
  refine ⟨_, _, _, _, _, _, _, Cert.EvenInIdeal.Value.run_blocks m ρ, (θ_run _ _ _).mono (fun r h c => ?_) (Cert.EvenInRefIdeal.Value.run (F := Ideal) m' ρ')⟩
  obtain ⟨e0, e1, e2⟩ := hag c
  obtain ⟨k0, k1, k2, k3, k4, k5, k6, k⟩ := h c
  rw [e0, e1, e2] at k0 k1 k2 k3 k4 k5 k6
  refine ⟨k0.trans ((dats m 0 c).arrAt_eq_of_covers 3 _ (by decide +kernel) fun t _ y => ?_).symm,
    k1.trans ((dats m 0 c).arrAt_eq_of_covers 4 _ (by decide +kernel) fun t _ y => ?_).symm,
    k2.trans ((dats m 0 c).arrAt_eq_of_covers 5 _ (by decide +kernel) fun t _ y => ?_).symm,
    k3.trans ((dats m 0 c).arrAt_eq_of_covers 6 _ (by decide +kernel) fun t _ y => ?_).symm,
    k4.trans ((dats m 0 c).arrAt_eq_of_covers 7 _ (by decide +kernel) fun t _ y => ?_).symm,
    k5.trans ((dats m 0 c).arrAt_eq_of_covers 8 _ (by decide +kernel) fun t _ y => ?_).symm,
    k6.trans ((dats m 0 c).arrAt_eq_of_covers 9 _ (by decide +kernel) fun t _ y => ?_).symm, k⟩ <;> blk_simp <;>
    first
      | rw [after0_3] | rw [after0_4] | rw [after0_5] | rw [after0_6] | rw [after0_7] | rw [after0_8] | rw [after0_9]
  all_goals
    frame_out
    pointwise [k0_pay1, k0_pay2, k0_pay3, k0_pay4, k0_pay5, k0_pay6, k0_pay7, k0_pay8, k0_pay9, k0_pay10]
    blk_point [iblk, V, idx t]

end Cert.EvenInIdeal.Layer
-- ==== Proof.OddInValue.lean ====
module

public import proofs.«01_k».proof.Defs
public import proofs.«01_k».proof.Proof.Gen.OddInIdeal.Value
public import proofs.«01_k».proof.Proof.Gen.OddInRefIdeal.Run
public import Idealize.ShloMosaic.Lib.Pipeline.ValueKit
public import Idealize.ShloMosaic.Lib.Pointwise

/-! The odd layers' projections: every block of 512 rows of each of the four results holds those rows of `rms_norm(h) @ w_in` in the result's columns; the last 120 of the forget gate's 128 columns are padding. -/

@[expose] public section

set_option maxRecDepth 16384

noncomputable section

open Idealize.ShloMosaic Idealize.ShloMosaic.TcCoe Idealize.SL.Sem
open Idealize.ShloMosaic.Pipeline (Dat)

namespace Cert.OddInIdeal.Layer

open Cert.OddInIdeal Cert.OddInIdeal.Gen

/-- Where each block of the pipeline sits: the rows of a grid point for the hidden state and the results, the whole gain and weight. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The odd layers' weight with 112 columns of zeros on its right. -/
def padded (w : FVec Ideal S1024x3088 .f32) : FVec Ideal S1024x3200 .bf16 :=
  truncf .bf16 (pad S1024x3200 ![0, 0] ![0, 112] ![0, 0] w (sitofp .f32 (constantI S_ 32 0#32)) pads_S1024x3088_S1024x3200_000_01120 h_S_) bitsLt_bf16_f32

/-- The integer 0 the padding holds, converted, is 0. -/
theorem pad_value : FloatOps.sitofp (F := Ideal) .f32 (0#32) = (0 : EReal) := by
  show (((0#32 : BitVec 32).toInt : ℝ) : EReal) = 0
  simp

/-- The padded weight at an index. -/
theorem padded_at (w : FVec Ideal S1024x3088 .f32) (x : Fin 1024) (k : Fin 3200) :
    padded w (ix2 x k) = if h : k.val < 3088 then w (ix2 x ⟨k.val, h⟩) else (0 : EReal) := by
  pointwise [padded]
  split
  · rfl
  · exact pad_value

/-- The weight the region reads: the argument, padded on the right with 112 columns of zeros. -/
theorem V_weight (m : (ℓ : Loc nD τ sig) → Buf (Elt Ideal) ℓ) (c : Dev nD) : V m c main_v1 = padded (m ((c : Thread nD τ).loc main_arg2)) := by
  show StableHlo.after (hostOps0 ++ (hostOps0_1 ++ (hostOps0_2 ++ []))) _ _ = _
  rfl

/-- The weight's block at an index, in the argument. -/
theorem w_at (m : (ℓ : Loc nD τ sig) → Buf (Elt Ideal) ℓ) (c : Dev nD) (t : Fin cfg0.N) (x : Fin 1024) (k : Fin 3200) :
    iblk m c 2 t (ix2 x k) = if h : k.val < 3088 then m ((c : Thread nD τ).loc main_arg2) (ix2 x ⟨k.val, h⟩) else (0 : EReal) := by
  refine Eq.trans ?_ (padded_at _ x k)
  show V m c main_v1 _ = _
  rw [V_weight]
  blk_ext [idx t]
/-- The gain the region reads: the argument as one row. -/
theorem V_gain (m : (ℓ : Loc nD τ sig) → Buf (Elt Ideal) ℓ) (c : Dev nD) : V m c main_v2
    = (shapeCast S1x1024 (m ((c : Thread nD τ).loc main_arg1) : FVec Ideal S1024 .f32) shapeCasts_S1024_S1x1024 : FVec Ideal S1x1024 .f32) := by
  show StableHlo.after (hostOps0 ++ (hostOps0_1 ++ (hostOps0_2 ++ []))) _ _ = _
  rfl

/-- The gain's block at an index, in the argument. -/
theorem g_at (m : (ℓ : Loc nD τ sig) → Buf (Elt Ideal) ℓ) (c : Dev nD) (t : Fin cfg0.N) (x : Fin 1024) :
    iblk m c 1 t (ix2 0 x) = m ((c : Thread nD τ).loc main_arg1) (ix1 x) := by
  show V m c main_v2 _ = _
  rw [V_gain]
  pointwise
  blk_ext [idx t]

set_option maxHeartbeats 1600000 in
/-- The kernel and the reference compute the same arrays. -/
theorem algebraic : Cert.algebraic_OddInIdeal_OddInRefIdeal := by
  intro m ρ m' ρ' _ hag
  refine ⟨_, _, _, _, Cert.OddInIdeal.Value.run_blocks m ρ, (θ_run _ _ _).mono (fun r h c => ?_) (Cert.OddInRefIdeal.Value.run (F := Ideal) m' ρ')⟩
  obtain ⟨e0, e1, e2⟩ := hag c
  obtain ⟨k0, k1, k2, k3, k⟩ := h c
  rw [e0, e1, e2] at k0 k1 k2 k3
  refine ⟨k0.trans ((dats m 0 c).arrAt_eq_of_covers 3 _ (by decide +kernel) fun t _ y => ?_).symm,
    k1.trans ((dats m 0 c).arrAt_eq_of_covers 4 _ (by decide +kernel) fun t _ y => ?_).symm,
    k2.trans ((dats m 0 c).arrAt_eq_of_covers 5 _ (by decide +kernel) fun t _ y => ?_).symm,
    k3.trans ((dats m 0 c).arrAt_eq_of_covers 6 _ (by decide +kernel) fun t _ y => ?_).symm, k⟩ <;> blk_simp
  · rw [after0_3]
    frame_out
    pointwise [k0_pay2, k0_pay3]
    have hb : (y 1).val < 3088 := by have := (y 1).isLt; change _ < 1024 at this; omega
    simp only [w_at m c t, g_at m c t, hb, dite_true]
    blk_point [iblk, V, idx t]
  · rw [after0_4]
    frame_out
    pointwise [k0_pay2, k0_pay4]
    have hb : 1024 + (y 1).val < 3088 := by have := (y 1).isLt; change _ < 1024 at this; omega
    simp only [w_at m c t, g_at m c t, hb, dite_true]
    blk_point [iblk, V, idx t]
  · rw [after0_5]
    frame_out
    pointwise [k0_pay2, k0_pay5]
    have hb : 2048 + (y 1).val < 3088 := by have := (y 1).isLt; change _ < 1024 at this; omega
    simp only [w_at m c t, g_at m c t, hb, dite_true]
    blk_point [iblk, V, idx t]
  · rw [after0_6]
    frame_out
    pointwise [k0_pay1, k0_pay2]
    have hc : (((View.whole main_v3_3).slice (win0_6.rect t)).emb y 1).val = (y 1).val := by blk_simp [idx t]
    simp only [w_at m c t, g_at m c t, hc]
    by_cases hb : (y 1).val < 16
    · have hb' : 3072 + (y 1).val < 3088 := by omega
      simp only [hb, hb', dite_true]
      blk_point [iblk, V, idx t]
    · have hb' : ¬ 3072 + (y 1).val < 3088 := by omega
      simp only [hb, hb', dite_false, mul_zero, Finset.sum_const_zero]
      exact (pad_value).symm

end Cert.OddInIdeal.Layer
-- ==== Proof.MemoryInValue.lean ====
module

public import proofs.«01_k».proof.Defs
public import proofs.«01_k».proof.Proof.Gen.MemoryInIdeal.Value
public import proofs.«01_k».proof.Proof.Gen.MemoryInRefIdeal.Run
public import Idealize.ShloMosaic.Lib.Pipeline.ValueKit
public import Idealize.ShloMosaic.Lib.Pointwise

/-! The memory's keys and values: every block of 512 rows of either result holds those rows of `rms_norm(memory) @ w_kv`, cut in two. -/

@[expose] public section

set_option maxRecDepth 16384

noncomputable section

open Idealize.ShloMosaic Idealize.ShloMosaic.TcCoe Idealize.SL.Sem
open Idealize.ShloMosaic.Pipeline (Dat)

namespace Cert.MemoryInIdeal.Layer

open Cert.MemoryInIdeal Cert.MemoryInIdeal.Gen

/-- Where each block of the pipeline sits: the rows of a grid point for the memory and the two results, the whole gain and weight. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The kernel and the reference compute the same arrays. -/
theorem algebraic : Cert.algebraic_MemoryInIdeal_MemoryInRefIdeal := by
  intro m ρ m' ρ' _ hag
  refine ⟨_, _, Cert.MemoryInIdeal.Value.run_blocks m ρ, (θ_run _ _ _).mono (fun r h c => ?_) (Cert.MemoryInRefIdeal.Value.run (F := Ideal) m' ρ')⟩
  obtain ⟨e0, e1, e2⟩ := hag c
  obtain ⟨k0, k1, k⟩ := h c
  rw [e0, e1, e2] at k0 k1
  refine ⟨k0.trans ((dats m 0 c).arrAt_eq_of_covers 3 _ (by decide +kernel) fun t _ y => ?_).symm,
    k1.trans ((dats m 0 c).arrAt_eq_of_covers 4 _ (by decide +kernel) fun t _ y => ?_).symm, k⟩ <;> blk_simp
  · rw [after0_3]
    frame_out
    pointwise [k0_pay1, k0_pay2]
    blk_point [iblk, V, idx t]
  · rw [after0_4]
    frame_out
    pointwise [k0_pay1, k0_pay3]
    blk_point [iblk, V, idx t]

end Cert.MemoryInIdeal.Layer
-- ==== Proof.EvenOutValue.lean ====
module

public import proofs.«01_k».proof.Defs
public import proofs.«01_k».proof.Proof.Gen.EvenOutIdeal.Value
public import proofs.«01_k».proof.Proof.Gen.EvenOutRefIdeal.Run
public import Idealize.ShloMosaic.Lib.Pipeline.ValueKit
public import Idealize.ShloMosaic.Lib.Pointwise

/-! The even layers' output projection: every block of 512 rows the kernel writes holds those rows of `h + concat(o_a, o_b) @ w_out`. -/

@[expose] public section

set_option maxRecDepth 16384

noncomputable section

open Idealize.ShloMosaic Idealize.ShloMosaic.TcCoe Idealize.SL.Sem
open Idealize.ShloMosaic.Pipeline (Dat)

namespace Cert.EvenOutIdeal.Layer

open Cert.EvenOutIdeal Cert.EvenOutIdeal.Gen

/-- Where each block of the pipeline sits: the rows of a grid point for the hidden state, the two mixers' outputs and the result, the
    two halves of the weight whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The kernel and the reference compute the same array. -/
theorem algebraic : Cert.algebraic_EvenOutIdeal_EvenOutRefIdeal := by
  intro m ρ m' ρ' _ hag
  refine ⟨_, Cert.EvenOutIdeal.Value.run_blocks m ρ, (θ_run _ _ _).mono (fun r h c => ?_) (Cert.EvenOutRefIdeal.Value.run (F := Ideal) m' ρ')⟩
  obtain ⟨e0, e1, e2, e3⟩ := hag c
  obtain ⟨k0, k⟩ := h c
  rw [e0, e1, e2, e3] at k0
  refine ⟨k0.trans ((dats m 0 c).arrAt_eq_of_covers 5 _ (by decide +kernel) fun t _ y => ?_).symm, k⟩
  blk_simp
  rw [after0_5]
  frame_out
  pointwise [k0_pay1]
  rw [add_assoc]
  blk_point [iblk, V, idx t]

end Cert.EvenOutIdeal.Layer
-- ==== Proof.OddOutValue.lean ====
module

public import proofs.«01_k».proof.Defs
public import proofs.«01_k».proof.Proof.Gen.OddOutIdeal.Value
public import proofs.«01_k».proof.Proof.Gen.OddOutRefIdeal.Run
public import Idealize.ShloMosaic.Lib.Pipeline.ValueKit
public import Idealize.ShloMosaic.Lib.Pointwise

/-! The odd layers' output projection: every block of 512 rows the kernel writes holds those rows of `h + o @ w_out`. -/

@[expose] public section

set_option maxRecDepth 16384

noncomputable section

open Idealize.ShloMosaic Idealize.ShloMosaic.TcCoe Idealize.SL.Sem
open Idealize.ShloMosaic.Pipeline (Dat)

namespace Cert.OddOutIdeal.Layer

open Cert.OddOutIdeal Cert.OddOutIdeal.Gen

/-- Where each block of the pipeline sits: the rows of a grid point for the hidden state, the mixer's output and the result, the whole
    weight. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The kernel and the reference compute the same array. -/
theorem algebraic : Cert.algebraic_OddOutIdeal_OddOutRefIdeal := by
  intro m ρ m' ρ' _ hag
  refine ⟨_, Cert.OddOutIdeal.Value.run_blocks m ρ, (θ_run _ _ _).mono (fun r h c => ?_) (Cert.OddOutRefIdeal.Value.run (F := Ideal) m' ρ')⟩
  obtain ⟨e0, e1, e2⟩ := hag c
  obtain ⟨k0, k⟩ := h c
  rw [e0, e1, e2] at k0
  refine ⟨k0.trans ((dats m 0 c).arrAt_eq_of_covers 3 _ (by decide +kernel) fun t _ y => ?_).symm, k⟩
  blk_simp
  rw [after0_3]
  frame_out
  pointwise [k0_pay1]
  blk_point [iblk, V, idx t]

end Cert.OddOutIdeal.Layer
-- ==== Proof.FinalValue.lean ====
module

public import proofs.«01_k».proof.Defs
public import proofs.«01_k».proof.Proof.Gen.FinalIdeal.Value
public import proofs.«01_k».proof.Proof.Gen.FinalRefIdeal.Run
public import Idealize.ShloMosaic.Lib.Pipeline.ValueKit
public import Idealize.ShloMosaic.Lib.Pointwise

/-! The final norm: every block of 512 rows the kernel writes holds those rows of the reference's `rms_norm`. -/

@[expose] public section

set_option maxRecDepth 16384

noncomputable section

open Idealize.ShloMosaic Idealize.ShloMosaic.TcCoe Idealize.SL.Sem
open Idealize.ShloMosaic.Pipeline (Dat)

namespace Cert.FinalIdeal.Layer

open Cert.FinalIdeal Cert.FinalIdeal.Gen

/-- Where each block of the pipeline sits: the rows of a grid point for the hidden state and the result, the whole gain. -/
theorem idx : ∀ t : Fin cfg0.N, win0_0.index t = ![t.val, 0] ∧ win0_1.index t = ![0, 0] ∧ win0_2.index t = ![t.val, 0] :=
  (by decide +kernel : ∀ t : Fin grid0.N, _)

/-- The kernel and the reference compute the same array. -/
theorem algebraic : Cert.algebraic_FinalIdeal_FinalRefIdeal := by
  intro m ρ m' ρ' _ hag
  refine ⟨_, Cert.FinalIdeal.Value.run_blocks m ρ, (θ_run _ _ _).mono (fun r h c => ?_) (Cert.FinalRefIdeal.Value.run (F := Ideal) m' ρ')⟩
  obtain ⟨e0, e1⟩ := hag c
  have k := h c
  refine ⟨k.1.trans ?_, k.2⟩
  rw [e0, e1]
  refine ((dats m 0 c).arrAt_eq_of_covers 2 _ (by decide +kernel) fun t _ y => ?_).symm
  blk_simp
  rw [after0_2]
  frame_out
  pointwise [k0_pay1]
  blk_point [iblk, V, idx t]

end Cert.FinalIdeal.Layer
-- ==== Proof.FoxCumTable.lean ====
module

public import proofs.«01_k».proof.Defs
public import proofs.«01_k».proof.FoxCumIdeal
public import Mathlib.Tactic.FinCases

/-! The table that adds up a block: a one on and below the diagonal, a zero above it. -/

@[expose] public section

set_option maxRecDepth 16384
set_option maxHeartbeats 0

noncomputable section

open Idealize.ShloMosaic

namespace Cert.FoxCumIdeal.Layer

open Cert.FoxCumIdeal

/-- The entries of the table, sixteen rows at a time. -/
theorem rows_bits (b : Fin 16) : ∀ (r : Fin 16) (j : Fin 256),
    lit0t ((16 * b.val + r.val) * 256 + j.val) = if j.val ≤ 16 * b.val + r.val then 0x3F800000#32 else 0x00000000#32 := by
  fin_cases b <;> decide +kernel

end Cert.FoxCumIdeal.Layer

end
-- ==== Proof.FoxCumCore.lean ====
module

public import proofs.«01_k».proof.Defs
public import Idealize.ShloMosaic.Lib.Pipeline.ValueKit
public import Idealize.ShloMosaic.Lib.Pointwise

/-! The running sums of the log-sigmoids: the log-sigmoid in the kernel's form and in the reference's, and sums over the first positions. -/

@[expose] public section

noncomputable section

open Idealize.ShloMosaic

namespace Cert.FoxCum

/-- The log-sigmoid, as the kernel computes it. -/
def logSig (x : EReal) : EReal := min x 0 - Ideal.log1p (Ideal.exp (0 - max x (-x)))

theorem neg_le_zero {x : EReal} (h : 0 ≤ x) : -x ≤ 0 := by
  rw [← neg_zero]
  exact EReal.neg_le_neg_iff.mpr h

theorem neg_max (x : EReal) : -max (-x) 0 = min x 0 := by
  rcases le_total x 0 with h | h
  · rw [min_eq_left h, max_eq_left (EReal.neg_nonneg.mpr h), neg_neg]
  · rw [min_eq_right h, max_eq_right (neg_le_zero h), neg_zero]

/-- The correction term is a real number, whatever the argument. -/
theorem log1p_real {y : EReal} (hy : y ≤ 0) : ∃ r : ℝ, Ideal.log1p (Ideal.exp y) = r := by
  induction y using EReal.rec with
  | bot =>
    refine ⟨Real.log 1, ?_⟩
    show Ideal.log (1 + 0) = _
    rw [add_zero]
    show (if (1 : ℝ) ≤ 0 then _ else _) = _
    simp
  | top => exact absurd hy (by simp)
  | coe y =>
    have h : (1 : EReal) + (Real.exp y : EReal) = ((1 + Real.exp y : ℝ) : EReal) := by
      rw [EReal.coe_add, EReal.coe_one]
    have hp : 0 < 1 + Real.exp y := by positivity
    refine ⟨Real.log (1 + Real.exp y), ?_⟩
    show Ideal.log (1 + (Real.exp y : EReal)) = _
    rw [h]
    show (if 1 + Real.exp y ≤ 0 then _ else _) = _
    simp [hp.not_ge]

/-- The log-sigmoid as the reference computes it: the softplus of the negation, negated. -/
theorem logSig_eq (x : EReal) : -(max (-x) 0 + Ideal.log1p (Ideal.exp (-max (-x) (- -x)))) = logSig x := by
  have hy : 0 - max x (-x) ≤ 0 := by
    rw [zero_sub]
    refine neg_le_zero ?_
    rcases le_total x 0 with h | h
    · exact le_max_of_le_right (EReal.neg_nonneg.mpr h)
    · exact le_max_of_le_left h
  unfold logSig
  rw [neg_neg, max_comm (-x) x, ← zero_sub (max x (-x)), ← neg_max]
  obtain ⟨r, hr⟩ := log1p_real hy
  rw [hr, EReal.neg_add (.inr (EReal.coe_ne_top r)) (.inr (EReal.coe_ne_bot r))]

/-! ## Sums over the first positions -/

theorem sum_masked (N : ℕ) (f : ℕ → EReal) (r : ℕ) (hr : r < N) :
    (∑ j : Fin N, if j.val ≤ r then f j.val else 0) = ∑ j ∈ Finset.range (r + 1), f j := by
  rw [Fin.sum_univ_eq_sum_range (fun j => if j ≤ r then f j else 0) N, ← Finset.sum_filter]
  congr 1
  ext j
  simp only [Finset.mem_filter, Finset.mem_range]
  omega

/-- The sums of a window that ends at `t` and reaches further back than the first position. -/
theorem sum_window (n : ℕ) (f : ℕ → EReal) (t : ℕ) (ht : t ≤ n) :
    (∑ w : Fin (n + 1), if n ≤ t + w.val then f (t + w.val - n) else 0) = ∑ j ∈ Finset.range (t + 1), f j := by
  rw [Fin.sum_univ_eq_sum_range (fun w => if n ≤ t + w then f (t + w - n) else 0) (n + 1), show n + 1 = (n - t) + (t + 1) by omega,
    Finset.sum_range_add, Finset.sum_eq_zero, zero_add]
  · refine Finset.sum_congr rfl fun j _ => ?_
    rw [if_pos (by omega)]
    congr 1
    omega
  · intro w hw
    rw [Finset.mem_range] at hw
    exact if_neg (by omega)

theorem foldl_add {n : ℕ} (g : Fin n → EReal) (a : EReal) : (List.finRange n).foldl (fun r i => r + g i) a = a + ∑ i, g i := by
  have e (l : List (Fin n)) (a : EReal) : l.foldl (fun r i => r + g i) a = a + (l.map g).sum := by
    induction l generalizing a with
    | nil => simp
    | cons i l ih => simp [ih, add_assoc]
  rw [e, ← List.ofFn_eq_map, List.sum_ofFn]

end Cert.FoxCum

end
-- ==== Proof.FoxCumBlock.lean ====
module

public import proofs.«01_k».proof.Defs
public import proofs.«01_k».proof.Proof.FoxCumCore
public import proofs.«01_k».proof.Proof.Gen.FoxCumIdeal.Frame
public import Idealize.ShloMosaic.Lib.Pipeline.ValueKit
public import Idealize.ShloMosaic.Lib.Pointwise

/-! The running sums of a sequence, block by block: one block of positions from the sum carried into it, and the sum it carries out. -/

@[expose] public section

set_option maxRecDepth 16384

noncomputable section

open Idealize.ShloMosaic Idealize.ShloMosaic.TcCoe Idealize.SL.Sem

namespace Cert.FoxCumIdeal.Layer

open Cert.FoxCumIdeal Cert.FoxCumIdeal.Gen Cert.FoxCum

theorem inb_rows (k : ℕ) (a : Fin 3) : (![0, 256 * (k % 8), 0] : Fin 3 → ℕ) a + S1x256x128.size a ≤ S1x2048x128.size a := by
  match a with
  | 0 => exact Nat.le_refl 1
  | 1 =>
    show 256 * (k % 8) + 256 ≤ 2048
    omega
  | 2 => exact Nat.le_refl 128

theorem inb_sums (k : ℕ) (a : Fin 3) : (![0, 0, 256 * (k % 8)] : Fin 3 → ℕ) a + S1x128x256.size a ≤ S1x128x2048.size a := by
  match a with
  | 0 => exact Nat.le_refl 1
  | 1 => exact Nat.le_refl 128
  | 2 =>
    show 256 * (k % 8) + 256 ≤ 2048
    omega

variable (x0 : FVec Ideal S1x2048x128 .f32) (x1 : FVec Ideal S1x128 .f32) (x2 : FVec Ideal S256x256 .f32)

/-- The positions of block `k`. -/
def rows (k : ℕ) : FVec Ideal S1x256x128 .f32 :=
  View.ld (Val := Elt Ideal) (e' := .f32) x0 (Rect.unit (s := S1x2048x128) ![0, 256 * (k % 8), 0] S1x256x128.size (inb_rows k))

/-- The biases, loaded whole. -/
def biases : FVec Ideal S1x128 .f32 := View.ld (Val := Elt Ideal) (e' := .f32) x1 r0_1

/-- The table, loaded whole. -/
def table : FVec Ideal S256x256 .f32 := View.ld (Val := Elt Ideal) (e' := .f32) x2 r0_2

/-- The logits of a block, the biases added. -/
def logits (v : FVec Ideal S1x256x128 .f32) (b : FVec Ideal S1x128 .f32) : FVec Ideal S256x128 .f32 :=
  addf (shapeCast S256x128 v shapeCasts_S1x256x128_S256x128)
    (broadcastTo S256x128 (shapeCast S1x128 b shapeCasts_S1x128_S1x128) broadcasts_S1x128_S256x128)

/-- The log-sigmoids of a block. -/
def logSigs (x : FVec Ideal S256x128 .f32) : FVec Ideal S256x128 .f32 :=
  subf (minimumf x (broadcast S256x128 (Scalar.ofBits (F := Ideal) .f32 0x00000000#32)))
    (log1p (exp (subf (broadcast S256x128 (Scalar.ofBits (F := Ideal) .f32 0x00000000#32)) (absf x))))

/-- The running sums of a block, from the sum carried into it. -/
def running (w : FVec Ideal S256x256 .f32) (x : FVec Ideal S256x128 .f32) (carried : FVec Ideal S1x128 .f32) : FVec Ideal S256x128 .f32 :=
  addf (matmul dot_S256x256_S256x128_S256x128_1_0_0_1_n_n (some .fp32) w x (constant S256x128 .f32 0x00000000#32))
    (broadcastTo S256x128 carried broadcasts_S1x128_S256x128)

/-- The running sums of block `k`. -/
def sums (k : ℕ) (carried : FVec Ideal S1x128 .f32) : FVec Ideal S256x128 .f32 :=
  running (table x2) (logSigs (logits (rows x0 k) (biases x1))) carried

/-- The sum carried into block `k`. -/
def carry : ℕ → FVec Ideal S1x128 .f32
  | 0 => broadcast S1x128 (Scalar.ofBits (F := Ideal) .f32 0x00000000#32)
  | k + 1 => extractStridedSlice S1x128 ![255, 0] (sums x0 x1 x2 k (carry k)) slices_S256x128_o255_0_S1x128

/-- Block `k` of the result, laid lane by lane. -/
def laid (k : ℕ) : FVec Ideal S1x128x256 .f32 :=
  shapeCast S1x128x256 (transpose S128x256 [1, 0] (sums x0 x1 x2 k (carry x0 x1 x2 k)) transposes_S256x128_p1_0_S128x256) shapeCasts_S128x256_S1x128x256

set_option maxHeartbeats 4000000 in
/-- What the kernel leaves of a sequence is its eight blocks. -/
theorem out_eq : out0_3 (F := Ideal) x0 x1 x2 = View.canon (List.ofFn fun k : Fin 8 =>
    (⟨Rect.unit ![0, 0, 256 * ((7 - k.val) % 8)] S1x128x256.size (inb_sums (7 - k.val)), laid x0 x1 x2 (7 - k.val)⟩
      : View.Piece (Elt Ideal) S1x128x2048 .f32)) := by
  rfl

/-- The log-sigmoid at a position and a lane. -/
def gate (h : Fin 128) (j : ℕ) : EReal := logSig ((x0 (ix3 0 ⟨j % 2048, by omega⟩ h) : EReal) + x1 (ix2 0 h))

theorem rows_at (k : ℕ) (r : Fin 256) (h : Fin 128) : rows x0 k (ix3 0 r h) = x0 (ix3 0 ⟨256 * (k % 8) + r.val, by omega⟩ h) :=
  View.ld_unit_apply_of (Val := Elt Ideal) (e := .f32) x0 _ _ (inb_rows k) _ _ fun a => by
    match a with
    | 0 => rfl
    | 1 => rfl
    | 2 => exact (Nat.zero_add _).symm

theorem biases_at (h : Fin 128) : biases x1 (ix2 0 h) = x1 (ix2 0 h) :=
  View.ld_unit_apply_of (Val := Elt Ideal) (e := .f32) x1 _ _ _ _ _ fun a => by
    match a with
    | 0 => rfl
    | 1 => exact (Nat.zero_add _).symm

theorem table_at (r j : Fin 256) : table x2 (ix2 r j) = x2 (ix2 r j) :=
  View.ld_unit_apply_of (Val := Elt Ideal) (e := .f32) x2 _ _ _ _ _ fun a => by
    match a with
    | 0 => exact (Nat.zero_add _).symm
    | 1 => exact (Nat.zero_add _).symm

theorem logits_at (v : FVec Ideal S1x256x128 .f32) (b : FVec Ideal S1x128 .f32) (r : Fin 256) (h : Fin 128) :
    (logits v b (ix2 r h) : EReal) = v (ix3 0 r h) + b (ix2 0 h) := by
  pointwise [logits]

theorem logSigs_at (x : FVec Ideal S256x128 .f32) (r : Fin 256) (h : Fin 128) : (logSigs x (ix2 r h) : EReal) = logSig (x (ix2 r h)) := by
  pointwise [logSigs, logSig]
  rfl

theorem running_at (w : FVec Ideal S256x256 .f32) (x : FVec Ideal S256x128 .f32) (carried : FVec Ideal S1x128 .f32) (r : Fin 256) (h : Fin 128) :
    (running w x carried (ix2 r h) : EReal) = (∑ j : Fin 256, (w (ix2 r j) : EReal) * x (ix2 j h)) + carried (ix2 0 h) := by
  pointwise [running]

theorem gate_at (k : ℕ) (hk : k < 8) (r : Fin 256) (h : Fin 128) :
    (logSigs (logits (rows x0 k) (biases x1)) (ix2 r h) : EReal) = gate x0 x1 h (256 * k + r.val) := by
  have e : (⟨256 * (k % 8) + r.val, by omega⟩ : Fin 2048) = ⟨(256 * k + r.val) % 2048, by omega⟩ := by
    ext
    show 256 * (k % 8) + r.val = (256 * k + r.val) % 2048
    omega
  rw [logSigs_at, logits_at, rows_at, biases_at, e]
  rfl

theorem sums_at (h2 : ∀ r j : Fin 256, (x2 (ix2 r j) : EReal) = if j.val ≤ r.val then 1 else 0) (k : ℕ) (hk : k < 8)
    (carried : FVec Ideal S1x128 .f32) (r : Fin 256) (h : Fin 128) :
    (sums x0 x1 x2 k carried (ix2 r h) : EReal)
      = (∑ j : Fin 256, if j.val ≤ r.val then gate x0 x1 h (256 * k + j.val) else 0) + carried (ix2 0 h) := by
  unfold sums
  rw [running_at]
  simp only [table_at, h2, gate_at x0 x1 k hk, ite_mul, one_mul, zero_mul]

theorem laid_at (k : ℕ) (r : Fin 256) (h : Fin 128) : (laid x0 x1 x2 k (ix3 0 h r) : EReal) = sums x0 x1 x2 k (carry x0 x1 x2 k) (ix2 r h) := by
  pointwise [laid]

theorem carry_succ (k : ℕ) (h : Fin 128) : (carry x0 x1 x2 (k + 1) (ix2 0 h) : EReal) = sums x0 x1 x2 k (carry x0 x1 x2 k) (ix2 255 h) := by
  pointwise [carry]

variable (h2 : ∀ r j : Fin 256, (x2 (ix2 r j) : EReal) = if j.val ≤ r.val then 1 else 0)
include h2

/-- A block whose carried sum is that of the positions before it goes on with its own positions. -/
theorem sums_range (k : ℕ) (hk : k < 8) (carried : FVec Ideal S1x128 .f32) (r : Fin 256) (h : Fin 128)
    (hc : (carried (ix2 0 h) : EReal) = ∑ j ∈ Finset.range (256 * k), gate x0 x1 h j) :
    (sums x0 x1 x2 k carried (ix2 r h) : EReal) = ∑ j ∈ Finset.range (256 * k + r.val + 1), gate x0 x1 h j := by
  rw [sums_at x0 x1 x2 h2 k hk, hc, sum_masked 256 (fun j => gate x0 x1 h (256 * k + j)) r.val r.isLt, add_comm, add_assoc (256 * k),
    Finset.sum_range_add _ (256 * k)]

theorem carry_at (h : Fin 128) : ∀ k : ℕ, k ≤ 8 → (carry x0 x1 x2 k (ix2 0 h) : EReal) = ∑ j ∈ Finset.range (256 * k), gate x0 x1 h j
  | 0, _ => by
    rw [Nat.mul_zero, Finset.sum_range_zero]
    pointwise [carry]
  | k + 1, hk => by
    rw [carry_succ, sums_range x0 x1 x2 h2 k (by omega) _ 255 h (carry_at h k (by omega))]
    rfl

/-- What the kernel leaves at a lane and a position: the sum of the log-sigmoids up to it. -/
theorem out_at (h : Fin 128) (t : Fin 2048) : (out0_3 (F := Ideal) x0 x1 x2 (ix3 0 h t) : EReal) = ∑ j ∈ Finset.range (t.val + 1), gate x0 x1 h j := by
  rw [out_eq]
  refine View.canon_ofFn_unit_eq_of_forall (Val := Elt Ideal) (e := .f32) (S := S1x128x2048) (fun k : Fin 8 => ![0, 0, 256 * ((7 - k.val) % 8)]) S1x128x256.size (fun k => inb_sums (7 - k.val))
    (fun k => laid x0 x1 x2 (7 - k.val)) _ _ ⟨⟨7 - t.val / 256, by omega⟩, fun a => ?_⟩ fun k x hx => ?_
  · match a with
    | 0 => exact ⟨Nat.le_refl 0, Nat.zero_lt_one⟩
    | 1 =>
      show 0 ≤ h.val ∧ h.val < 0 + 128
      omega
    | 2 =>
      show 256 * ((7 - (7 - t.val / 256)) % 8) ≤ t.val ∧ t.val < 256 * ((7 - (7 - t.val / 256)) % 8) + 256
      omega
  · obtain ⟨h', r, rfl⟩ : ∃ (h' : Fin 128) (r : Fin 256), x = ix3 0 h' r := ⟨x 1, x 2, by blk_ext⟩
    have e1 : h.val = 0 + h'.val := hx 1
    have e2 : t.val = 256 * ((7 - k.val) % 8) + r.val := hx 2
    obtain rfl : h' = h := Fin.ext (by omega)
    rw [laid_at, sums_range x0 x1 x2 h2 _ (by omega) _ r h' (carry_at x0 x1 x2 h2 h' _ (by omega)), e2, Nat.mod_eq_of_lt (by omega)]

end Cert.FoxCumIdeal.Layer

end
-- ==== Proof.FoxCumRef.lean ====
module

public import proofs.«01_k».proof.Defs
public import proofs.«01_k».proof.Proof.FoxCumCore
public import proofs.«01_k».proof.Proof.Gen.FoxCumRefIdeal.Run
public import Idealize.ShloMosaic.Lib.Pipeline.ValueKit
public import Idealize.ShloMosaic.Lib.Pointwise

/-! The reference's running sums read at a sequence, a lane and a position. -/

@[expose] public section

set_option maxRecDepth 16384

noncomputable section

open Idealize.ShloMosaic Idealize.ShloMosaic.TcCoe Idealize.SL.Sem

namespace Cert.FoxCumRefIdeal.Layer

open Cert.FoxCumRefIdeal Cert.FoxCumRefIdeal.Gen Cert.FoxCumRefIdeal.Value Cert.FoxCum

/-- A window sum is the sum over the window's positions, after the initial value. -/
theorem window_at {s t u : Shape} (win strides lo hi : Fin s.rank → ℕ) (x : FVec Ideal s .f32) (init : FVec Ideal u .f32)
    (h : s.ReduceWindows win strides lo hi t) (hu : 0 < u.numel) (i : t.Idx) :
    (Host.reduceWindowAdd win strides lo hi x init h hu i : EReal) = init (Shape.Idx.first hu) + ∑ p : (⟨s.rank, win⟩ : Shape).Idx,
      if hin : ∀ a, lo a ≤ (i (a.cast h.1.symm)).val * strides a + (p a).val ∧ (i (a.cast h.1.symm)).val * strides a + (p a).val - lo a < s.size a
        then (x fun a => ⟨(i (a.cast h.1.symm)).val * strides a + (p a).val - lo a, (hin a).2⟩ : EReal) else init (Shape.Idx.first hu) := by
  rw [← (Shape.rowMajor (⟨s.rank, win⟩ : Shape)).symm.sum_comp]
  show Ideal.hostReduceWindowAdd win strides lo hi h x (init (Shape.Idx.first hu)) i = _
  unfold Ideal.hostReduceWindowAdd Host.reduceWindow
  dsimp only
  refine (foldl_add _ _).trans (congrArg _ (Finset.sum_congr rfl fun n _ => ?_))
  congr

/-- The positions of a window of the whole sequence. -/
def window : Fin 2048 ≃ (⟨3, ![1, 2048, 1]⟩ : Shape).Idx where
  toFun w := ix3 0 w 0
  invFun p := p 1
  left_inv w := rfl
  right_inv p := by blk_ext

/-- The sum over a window that reaches back to the first position is the running sum. -/
theorem cumsum_at (x : FVec Ideal S16x2048x128 .f32) (z : FVec Ideal S_ .f32) (hz : ∀ i, (z i : EReal) = 0) (b : Fin 16) (t : Fin 2048) (h : Fin 128) :
    (Host.reduceWindowAdd ![1, 2048, 1] ![1, 1, 1] ![0, 2047, 0] ![0, 0, 0] x z
      reduceWindows_S16x2048x128_S16x2048x128_w1s1p0_0_w2048s1p2047_0_w1s1p0_0 h_S_ (ix3 b t h) : EReal)
      = ∑ j ∈ Finset.range (t.val + 1), (x (ix3 b ⟨j % 2048, by omega⟩ h) : EReal) := by
  rw [window_at, hz, zero_add, ← window.sum_comp, ← sum_window 2047 (fun j => (x (ix3 b ⟨j % 2048, by omega⟩ h) : EReal)) t.val (by omega)]
  refine Finset.sum_congr rfl fun w _ => ?_
  by_cases hw : 2047 ≤ t.val + w.val
  · rw [if_pos hw, dif_pos]
    · refine congrArg x (funext fun a => Fin.ext ?_)
      match a with
      | 0 =>
        show b.val * 1 + 0 - 0 = b.val
        omega
      | 1 =>
        show t.val * 1 + w.val - 2047 = (t.val + w.val - 2047) % 2048
        omega
      | 2 =>
        show h.val * 1 + 0 - 0 = h.val
        omega
    · intro a
      match a with
      | 0 =>
        show 0 ≤ b.val * 1 + 0 ∧ b.val * 1 + 0 - 0 < 16
        omega
      | 1 =>
        show 2047 ≤ t.val * 1 + w.val ∧ t.val * 1 + w.val - 2047 < 2048
        omega
      | 2 =>
        show 0 ≤ h.val * 1 + 0 ∧ h.val * 1 + 0 - 0 < 128
        omega
  · rw [if_neg hw, dif_neg]
    intro hin
    have h1 : 2047 ≤ t.val * 1 + w.val := (hin 1).1
    omega

/-- The logits, a bias added in each lane. -/
def logits (f : FVec Ideal S32768x128 .f32) (bias : FVec Ideal S16 .f32) : FVec Ideal S16x2048x128 .f32 :=
  addf (shapeCast _ f shapeCasts_S32768x128_S16x2048x128) (broadcastInDim S16x2048x128 ![0, 1, 2] bcast_S1x1x128_S16x2048x128_0_1_2 (broadcastInDim S1x1x128 ![2] bcast_S128_S1x1x128_2 (pad S128 ![0] ![112] ![0] bias (sitofp .f32 (constantI S_ 32 0#32)) pads_S16_S128_01120 h_S_)))

/-- The log-sigmoids: the softplus of the negated logits, negated. -/
def logSigs (x : FVec Ideal S16x2048x128 .f32) : FVec Ideal S16x2048x128 .f32 :=
  Host.negf (select (cmpf .une (subf (Host.negf x) (broadcastInDim S16x2048x128 ![] bcast_S_S16x2048x128 (constant S_ .f32 0x00000000#32))) (subf (Host.negf x) (broadcastInDim S16x2048x128 ![] bcast_S_S16x2048x128 (constant S_ .f32 0x00000000#32)))) (addf (Host.negf x) (broadcastInDim S16x2048x128 ![] bcast_S_S16x2048x128 (constant S_ .f32 0x00000000#32))) (addf (maximumf (Host.negf x) (broadcastInDim S16x2048x128 ![] bcast_S_S16x2048x128 (constant S_ .f32 0x00000000#32))) (Host.log1p (Host.exp (Host.negf (Host.absf (subf (Host.negf x) (broadcastInDim S16x2048x128 ![] bcast_S_S16x2048x128 (constant S_ .f32 0x00000000#32)))))))))

/-- The running sums, laid lane by lane. -/
def result (f : FVec Ideal S32768x128 .f32) (bias : FVec Ideal S16 .f32) : FVec Ideal S16x128x2048 .f32 :=
  transpose S16x128x2048 [0, 2, 1] (Host.reduceWindowAdd ![1, 2048, 1] ![1, 1, 1] ![0, 2047, 0] ![0, 0, 0] (logSigs (logits f bias)) (broadcastInDim S_ ![] bcast_S_S_ (constant S_ .f32 0x00000000#32)) reduceWindows_S16x2048x128_S16x2048x128_w1s1p0_0_w2048s1p2047_0_w1s1p0_0 h_S_) transposes_S16x2048x128_S16x128x2048_0_2_1

theorem logSigs_at (x : FVec Ideal S16x2048x128 .f32) (i : S16x2048x128.Idx) : (logSigs x i : EReal) = logSig (x i) := by
  rw [← logSig_eq]
  pointwise [logSigs]
  rw [if_neg (not_not.mpr rfl)]
  rfl

/-- The bias of a lane: its head's, or zero in the lanes past the heads. -/
def bias128 (bias : FVec Ideal S16 .f32) : FVec Ideal S128 .f32 :=
  pad S128 ![0] ![112] ![0] bias (sitofp .f32 (constantI S_ 32 0#32)) pads_S16_S128_01120 h_S_

theorem logits_at (f : FVec Ideal S32768x128 .f32) (bias : FVec Ideal S16 .f32) (b : Fin 16) (t : Fin 2048) (h : Fin 128) :
    (logits f bias (ix3 b t h) : EReal) = f (ix2 ⟨b.val * 2048 + t.val, by omega⟩ h) + bias128 bias (ix1 h) := by
  have e : logits f bias = addf (shapeCast _ f shapeCasts_S32768x128_S16x2048x128) (broadcastInDim S16x2048x128 ![0, 1, 2] bcast_S1x1x128_S16x2048x128_0_1_2
      (broadcastInDim S1x1x128 ![2] bcast_S128_S1x1x128_2 (bias128 bias))) := rfl
  rw [e]
  generalize bias128 bias = v
  pointwise

theorem ref_at (f : FVec Ideal S32768x128 .f32) (bias : FVec Ideal S16 .f32) (b : Fin 16) (h : Fin 128) (t : Fin 2048) :
    (result f bias (ix3 b h t) : EReal) = ∑ j ∈ Finset.range (t.val + 1),
      logSig ((f (ix2 ⟨b.val * 2048 + j % 2048, by omega⟩ h) : EReal) + bias128 bias (ix1 h)) := by
  have hz (i : S_.Idx) : (broadcastInDim S_ ![] bcast_S_S_ (constant (F := Ideal) S_ .f32 0x00000000#32) i : EReal) = 0 := by
    pointwise
  have e := cumsum_at (logSigs (logits f bias)) _ hz b t h
  simp only [logSigs_at, logits_at] at e
  rw [← e]
  pointwise [result]

end Cert.FoxCumRefIdeal.Layer

end
-- ==== Proof.FoxCumValue.lean ====
module

public import proofs.«01_k».proof.Defs
public import proofs.«01_k».proof.Proof.Reals
public import proofs.«01_k».proof.Proof.FoxCumTable
public import proofs.«01_k».proof.Proof.FoxCumBlock
public import proofs.«01_k».proof.Proof.FoxCumRef
public import proofs.«01_k».proof.Proof.Gen.FoxCumIdeal.Value
public import Idealize.ShloMosaic.Lib.Pipeline.ValueKit
public import Idealize.ShloMosaic.Lib.Pipeline.Covers

/-! The running sums of the log-sigmoids: the kernel and the reference compute the same array. -/

@[expose] public section

set_option maxRecDepth 16384

noncomputable section

open Idealize.ShloMosaic Idealize.ShloMosaic.TcCoe Idealize.SL.Sem
open Idealize.ShloMosaic.Pipeline (Dat)

namespace Cert.FoxCumIdeal.Layer

open Cert.FoxCumIdeal Cert.FoxCumIdeal.Gen Cert.FoxCum

theorem idx : ∀ t : Fin cfg0.N, win0_0.index t = ![t.val, 0, 0] ∧ win0_1.index t = ![0, 0] ∧ win0_2.index t = ![0, 0]
    ∧ win0_3.index t = ![t.val, 0, 0] :=
  (by decide +kernel : ∀ t : Fin grid0.N, _)

theorem t_lt (t : Fin cfg0.N) : t.val < 16 := t.isLt

variable (m : (ℓ : Loc nD τ sig) → Buf (Elt Ideal) ℓ) (c : Dev nD) (t : Fin cfg0.N)

/-- The logits the region reads: the argument, sequence by sequence. -/
theorem V_logits : V m c main_v2 = (shapeCast S16x2048x128 (m ((c : Thread nD τ).loc main_arg0) : FVec Ideal S32768x128 .f32)
    shapeCasts_S32768x128_S16x2048x128 : FVec Ideal S16x2048x128 .f32) := by
  show StableHlo.after (hostOps0 ++ (hostOps0_1 ++ (hostOps0_2 ++ []))) _ _ = _
  rfl

/-- The biases the region reads: the argument padded with zeros, as one row. -/
theorem V_biases : V m c main_v1 = (shapeCast S1x128 (Cert.FoxCumRefIdeal.Layer.bias128 (m ((c : Thread nD τ).loc main_arg1)))
    shapeCasts_S128_S1x128 : FVec Ideal S1x128 .f32) := by
  show StableHlo.after (hostOps0 ++ (hostOps0_1 ++ (hostOps0_2 ++ []))) _ _ = _
  rfl

/-- The table the region reads. -/
theorem V_table : V m c main_cst = fun i => FloatOps.ofBits (F := Ideal) .f32 (lit0 (S256x256.rowMajor i)) := by
  show StableHlo.after (hostOps0 ++ (hostOps0_1 ++ (hostOps0_2 ++ []))) _ _ = _
  rfl

theorem cast_at (f : FVec Ideal S32768x128 .f32) (b : Fin 16) (j : Fin 2048) (h : Fin 128) :
    shapeCast S16x2048x128 f shapeCasts_S32768x128_S16x2048x128 (ix3 b j h) = f (ix2 ⟨b.val * 2048 + j.val, by omega⟩ h) := by
  pointwise

theorem x_at (j : Fin 2048) (h : Fin 128) : iblk m c 0 t (ix3 0 j h) = m ((c : Thread nD τ).loc main_arg0)
    (ix2 ⟨t.val * 2048 + j.val, by have := t_lt t; omega⟩ h) := by
  have e : iblk m c 0 t (ix3 0 j h) = (V m c main_v2 : FVec Ideal S16x2048x128 .f32) (ix3 ⟨t.val, t_lt t⟩ j h) := by
    show (V m c main_v2 : FVec Ideal S16x2048x128 .f32) _ = _
    rw [V_logits]
    generalize (shapeCast S16x2048x128 _ _ : FVec Ideal S16x2048x128 .f32) = f
    blk_ext [idx t]
  rw [e, V_logits]
  exact cast_at _ ⟨t.val, t_lt t⟩ j h

theorem bias_at (h : Fin 128) : iblk m c 1 t (ix2 0 h) = Cert.FoxCumRefIdeal.Layer.bias128 (m ((c : Thread nD τ).loc main_arg1)) (ix1 h) := by
  show V m c main_v1 _ = _
  rw [V_biases]
  generalize Cert.FoxCumRefIdeal.Layer.bias128 (m ((c : Thread nD τ).loc main_arg1)) = v
  pointwise
  blk_ext [idx t]

theorem bits_one : Ideal.ofBits .f32 0x3F800000#32 = 1 := by
  simp [Ideal.ofBits, Ideal.ieee, -EReal.coe_mul]; norm_num

theorem bits_zero : Ideal.ofBits .f32 0x00000000#32 = 0 := by
  simp [Ideal.ofBits, Ideal.ieee]

/-- The table at a row and a column. -/
theorem table_bits (r j : Fin 256) :
    lit0t (r.val * 256 + j.val) = if j.val ≤ r.val then 0x3F800000#32 else 0x00000000#32 := by
  have e : 16 * (r.val / 16) + r.val % 16 = r.val := Nat.div_add_mod _ _
  have h := rows_bits ⟨r.val / 16, by omega⟩ ⟨r.val % 16, by omega⟩ j
  dsimp only at h
  rw [e] at h
  exact h

theorem tri_at (r j : Fin 256) : (iblk m c 2 t (ix2 r j) : EReal) = if j.val ≤ r.val then (1 : EReal) else (0 : EReal) := by
  have e : iblk m c 2 t (ix2 r j) = (V m c main_cst : FVec Ideal S256x256 .f32) (ix2 r j) := by
    blk_ext! [iblk, idx t]
  rw [e, V_table]
  show Ideal.ofBits .f32 (lit0t (S256x256.rowMajor (ix2 r j)).val) = _
  rw [show (S256x256.rowMajor (ix2 r j)).val = r.val * 256 + j.val from rowMajor_val2 _ _ rfl, table_bits]
  split
  · exact bits_one
  · exact bits_zero

theorem emb_at (h : Fin 128) (j : Fin 2048) : (win0_3.blk t).view.emb (ix3 0 h j) = ix3 ⟨t.val, t_lt t⟩ h j := by
  blk_ext [idx t]

/-- The kernel and the reference compute the same array. -/
theorem algebraic : Cert.algebraic_FoxCumIdeal_FoxCumRefIdeal := by
  intro m ρ m' ρ' _ hag
  refine ⟨_, Cert.FoxCumIdeal.Value.run_blocks m ρ, (θ_run _ _ _).mono (fun r h c => ?_) (Cert.FoxCumRefIdeal.Value.run (F := Ideal) m' ρ')⟩
  obtain ⟨e0, e1⟩ := hag c
  obtain ⟨k0, k⟩ := h c
  rw [e0, e1] at k0
  refine ⟨k0.trans ((dats m 0 c).arrAt_eq_of_covers 3 _ (by decide +kernel) fun t _ y => ?_).symm, k⟩
  blk_simp
  rw [after0_3]
  obtain ⟨h, j, rfl⟩ : ∃ (h : Fin 128) (j : Fin 2048), y = ix3 0 h j := ⟨y 1, y 2, by blk_ext⟩
  rw [emb_at]
  refine (out_at _ _ _ (tri_at m c t) h j).trans (Eq.trans ?_ (Cert.FoxCumRefIdeal.Layer.ref_at _ _ _ _ _).symm)
  refine Finset.sum_congr rfl fun i _ => ?_
  unfold gate
  rw [x_at, bias_at]

end Cert.FoxCumIdeal.Layer

end
-- ==== Proof.Frames.lean ====
module

public import proofs.«01_k».proof.Defs
public import proofs.«01_k».proof.Proof.Gen.FoxRefIdeal.Run
public import proofs.«01_k».proof.Proof.Gen.XattnRefIdeal.Run
public import proofs.«01_k».proof.Proof.Gen.MlpRefIdeal.Run
public import proofs.«01_k».proof.Proof.Gen.EvenInRefIdeal.Run
public import proofs.«01_k».proof.Proof.Gen.OddInRefIdeal.Run
public import proofs.«01_k».proof.Proof.Gen.MemoryInRefIdeal.Run
public import proofs.«01_k».proof.Proof.Gen.EvenOutRefIdeal.Run
public import proofs.«01_k».proof.Proof.Gen.OddOutRefIdeal.Run
public import proofs.«01_k».proof.Proof.Gen.FinalRefIdeal.Run
public import proofs.«01_k».proof.Proof.Gen.FoxCumRefIdeal.Run
public import Idealize.ShloMosaic.Lib.Quiescent

/-! The references' frames: each run of a reference ends with its arguments as they were and with no counter raised. -/

@[expose] public section

noncomputable section

open Idealize.ShloMosaic Idealize.SL.Sem

namespace Cert.Frames

theorem foxRef : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem xattnRef : Cert.quiescent_XattnRefIdeal := fun m ρ _ =>
  (θ_run Cert.XattnRefIdeal.defs _ _).mono (fun r h => ⟨fun c => (h c).2, sem_eq_zero_of_no_sems (by decide) r.2⟩)
    (Cert.XattnRefIdeal.Value.run (F := Ideal) m ρ)

theorem mlpRef : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem evenInRef : Cert.quiescent_EvenInRefIdeal := fun m ρ _ =>
  (θ_run Cert.EvenInRefIdeal.defs _ _).mono (fun r h => ⟨fun c => (h c).2.2.2.2.2.2.2, sem_eq_zero_of_no_sems (by decide) r.2⟩)
    (Cert.EvenInRefIdeal.Value.run (F := Ideal) m ρ)

theorem oddInRef : Cert.quiescent_OddInRefIdeal := fun m ρ _ =>
  (θ_run Cert.OddInRefIdeal.defs _ _).mono (fun r h => ⟨fun c => (h c).2.2.2.2, sem_eq_zero_of_no_sems (by decide) r.2⟩)
    (Cert.OddInRefIdeal.Value.run (F := Ideal) m ρ)

theorem memoryInRef : Cert.quiescent_MemoryInRefIdeal := fun m ρ _ =>
  (θ_run Cert.MemoryInRefIdeal.defs _ _).mono (fun r h => ⟨fun c => (h c).2.2, sem_eq_zero_of_no_sems (by decide) r.2⟩)
    (Cert.MemoryInRefIdeal.Value.run (F := Ideal) m ρ)

theorem evenOutRef : Cert.quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

theorem oddOutRef : Cert.quiescent_OddOutRefIdeal := fun m ρ _ =>
  (θ_run Cert.OddOutRefIdeal.defs _ _).mono (fun r h => ⟨fun c => (h c).2, sem_eq_zero_of_no_sems (by decide) r.2⟩)
    (Cert.OddOutRefIdeal.Value.run (F := Ideal) m ρ)

theorem finalRef : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem foxCumRef : Cert.quiescent_FoxCumRefIdeal := fun m ρ _ =>
  (θ_run Cert.FoxCumRefIdeal.defs _ _).mono (fun r h => ⟨fun c => (h c).2, sem_eq_zero_of_no_sems (by decide) r.2⟩)
    (Cert.FoxCumRefIdeal.Value.run (F := Ideal) m ρ)

end Cert.Frames
-- ==== Proof.lean ====
module

public import proofs.«01_k».proof.Defs
public import proofs.«01_k».proof.Proof.Gen.Fox.Frame
public import proofs.«01_k».proof.Proof.Gen.FoxIdeal.Frame
public import proofs.«01_k».proof.Proof.FoxValue
public import proofs.«01_k».proof.Proof.Gen.Pre_fox_finite
public import proofs.«01_k».proof.Proof.Gen.Xattn.Frame
public import proofs.«01_k».proof.Proof.Gen.XattnIdeal.Frame
public import proofs.«01_k».proof.Proof.XattnRef
public import proofs.«01_k».proof.Proof.Gen.Pre_xattn_finite
public import proofs.«01_k».proof.Proof.Gen.Mlp.Frame
public import proofs.«01_k».proof.Proof.Gen.MlpIdeal.Frame
public import proofs.«01_k».proof.Proof.MlpValue
public import proofs.«01_k».proof.Proof.Gen.EvenIn.Frame
public import proofs.«01_k».proof.Proof.Gen.EvenInIdeal.Frame
public import proofs.«01_k».proof.Proof.EvenInValue
public import proofs.«01_k».proof.Proof.Gen.OddIn.Frame
public import proofs.«01_k».proof.Proof.Gen.OddInIdeal.Frame
public import proofs.«01_k».proof.Proof.OddInValue
public import proofs.«01_k».proof.Proof.Gen.MemoryIn.Frame
public import proofs.«01_k».proof.Proof.Gen.MemoryInIdeal.Frame
public import proofs.«01_k».proof.Proof.MemoryInValue
public import proofs.«01_k».proof.Proof.Gen.EvenOut.Frame
public import proofs.«01_k».proof.Proof.Gen.EvenOutIdeal.Frame
public import proofs.«01_k».proof.Proof.EvenOutValue
public import proofs.«01_k».proof.Proof.Gen.OddOut.Frame
public import proofs.«01_k».proof.Proof.Gen.OddOutIdeal.Frame
public import proofs.«01_k».proof.Proof.OddOutValue
public import proofs.«01_k».proof.Proof.Gen.Final.Frame
public import proofs.«01_k».proof.Proof.Gen.FinalIdeal.Frame
public import proofs.«01_k».proof.Proof.FinalValue
public import proofs.«01_k».proof.Proof.Gen.FoxCum.Frame
public import proofs.«01_k».proof.Proof.Gen.FoxCumIdeal.Frame
public import proofs.«01_k».proof.Proof.FoxCumValue
public import proofs.«01_k».proof.Proof.Frames

@[expose] public section

noncomputable section

namespace Cert.Proof

open Idealize.ShloMosaic Idealize.SL.Sem

theorem claim : Cert.Claim := ⟨
  Cert.Fox.Gen.facts, Cert.FoxIdeal.Gen.facts, Cert.FoxRefIdeal.Gen.facts,
  Cert.Xattn.Gen.facts, Cert.XattnIdeal.Gen.facts, Cert.XattnRefIdeal.Gen.facts,
  Cert.Mlp.Gen.facts, Cert.MlpIdeal.Gen.facts, Cert.MlpRefIdeal.Gen.facts,
  Cert.EvenIn.Gen.facts, Cert.EvenInIdeal.Gen.facts, Cert.EvenInRefIdeal.Gen.facts,
  Cert.OddIn.Gen.facts, Cert.OddInIdeal.Gen.facts, Cert.OddInRefIdeal.Gen.facts,
  Cert.MemoryIn.Gen.facts, Cert.MemoryInIdeal.Gen.facts, Cert.MemoryInRefIdeal.Gen.facts,
  Cert.EvenOut.Gen.facts, Cert.EvenOutIdeal.Gen.facts, Cert.EvenOutRefIdeal.Gen.facts,
  Cert.OddOut.Gen.facts, Cert.OddOutIdeal.Gen.facts, Cert.OddOutRefIdeal.Gen.facts,
  Cert.Final.Gen.facts, Cert.FinalIdeal.Gen.facts, Cert.FinalRefIdeal.Gen.facts,
  Cert.FoxCum.Gen.facts, Cert.FoxCumIdeal.Gen.facts, Cert.FoxCumRefIdeal.Gen.facts,
  Cert.Pre_fox_finite.Gen.facts,
  Cert.Pre_xattn_finite.Gen.facts,
  fun m ρ _ => Cert.Fox.Gen.frame m ρ,
  fun m ρ _ => Cert.FoxIdeal.Gen.frame m ρ,
  fun m ρ _ => Cert.FoxIdeal.Gen.frame m ρ,
  Cert.Frames.foxRef,
  fun m ρ _ => Cert.Frames.foxRef m ρ trivial,
  fun m ρ _ => Cert.Xattn.Gen.frame m ρ,
  fun m ρ _ => Cert.XattnIdeal.Gen.frame m ρ,
  fun m ρ _ => Cert.XattnIdeal.Gen.frame m ρ,
  Cert.Frames.xattnRef,
  fun m ρ _ => Cert.Frames.xattnRef m ρ trivial,
  fun m ρ _ => Cert.Mlp.Gen.frame m ρ,
  fun m ρ _ => Cert.MlpIdeal.Gen.frame m ρ,
  Cert.Frames.mlpRef,
  fun m ρ _ => Cert.EvenIn.Gen.frame m ρ,
  fun m ρ _ => Cert.EvenInIdeal.Gen.frame m ρ,
  Cert.Frames.evenInRef,
  fun m ρ _ => Cert.OddIn.Gen.frame m ρ,
  fun m ρ _ => Cert.OddInIdeal.Gen.frame m ρ,
  Cert.Frames.oddInRef,
  fun m ρ _ => Cert.MemoryIn.Gen.frame m ρ,
  fun m ρ _ => Cert.MemoryInIdeal.Gen.frame m ρ,
  Cert.Frames.memoryInRef,
  fun m ρ _ => Cert.EvenOut.Gen.frame m ρ,
  fun m ρ _ => Cert.EvenOutIdeal.Gen.frame m ρ,
  Cert.Frames.evenOutRef,
  fun m ρ _ => Cert.OddOut.Gen.frame m ρ,
  fun m ρ _ => Cert.OddOutIdeal.Gen.frame m ρ,
  Cert.Frames.oddOutRef,
  fun m ρ _ => Cert.Final.Gen.frame m ρ,
  fun m ρ _ => Cert.FinalIdeal.Gen.frame m ρ,
  Cert.Frames.finalRef,
  fun m ρ _ => Cert.FoxCum.Gen.frame m ρ,
  fun m ρ _ => Cert.FoxCumIdeal.Gen.frame m ρ,
  Cert.Frames.foxCumRef,
  trivial,
  Cert.FoxIdeal.Layer.algebraic,
  trivial,
  Cert.XattnIdeal.Layer.algebraic,
  trivial,
  Cert.MlpIdeal.Layer.algebraic,
  trivial,
  Cert.EvenInIdeal.Layer.algebraic,
  trivial,
  Cert.OddInIdeal.Layer.algebraic,
  trivial,
  Cert.MemoryInIdeal.Layer.algebraic,
  trivial,
  Cert.EvenOutIdeal.Layer.algebraic,
  trivial,
  Cert.OddOutIdeal.Layer.algebraic,
  trivial,
  Cert.FinalIdeal.Layer.algebraic,
  trivial,
  Cert.FoxCumIdeal.Layer.algebraic⟩

end Cert.Proof

end
